-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S64x4096 : Shape := ⟨2, ![64, 4096]⟩
abbrev S16x64x4096 : Shape := ⟨3, ![16, 64, 4096]⟩
abbrev S15x64x4096 : Shape := ⟨3, ![15, 64, 4096]⟩
abbrev S32x64x128 : Shape := ⟨3, ![32, 64, 128]⟩
abbrev S5x8x128 : Shape := ⟨3, ![5, 8, 128]⟩
abbrev S16 : Shape := ⟨1, ![16]⟩
abbrev S15 : Shape := ⟨1, ![15]⟩
abbrev S32 : Shape := ⟨1, ![32]⟩
abbrev S5 : Shape := ⟨1, ![5]⟩
abbrev S_ : Shape := ⟨0, ![]⟩
abbrev S1 : Shape := ⟨1, ![1]⟩
abbrev S1x64x4096 : Shape := ⟨3, ![1, 64, 4096]⟩
abbrev S128x64 : Shape := ⟨2, ![128, 64]⟩
abbrev S1x128x64 : Shape := ⟨3, ![1, 128, 64]⟩
abbrev S1x1x1 : Shape := ⟨3, ![1, 1, 1]⟩
abbrev S64x128 : Shape := ⟨2, ![64, 128]⟩
abbrev S1x64x128 : Shape := ⟨3, ![1, 64, 128]⟩
abbrev S8x128 : Shape := ⟨2, ![8, 128]⟩
abbrev S1x8x128 : Shape := ⟨3, ![1, 8, 128]⟩

abbrev nBuf : Space → Nat
  | .hbm => 3
  | .vmem => 11
  | .smem => 0
  | _ => 0

abbrev bufTy : (tb : Table) → Fin (tcTables nBuf tb) → BufTy
  | .hbm, ⟨0, _⟩ => ⟨S128x4096, .bf16⟩
  | .hbm, ⟨1, _⟩ => ⟨S4096x64, .bf16⟩
  | .hbm, ⟨2, _⟩ => ⟨S4096x64, .f32⟩
  | .local _ .vmem, ⟨0, _⟩ => ⟨S128x4096, .bf16⟩
  | .local _ .vmem, ⟨1, _⟩ => ⟨S4096x64, .bf16⟩
  | .local _ .vmem, ⟨2, _⟩ => ⟨S4096x64, .f32⟩
  | .local _ .vmem, ⟨3, _⟩ => ⟨S128x4096, .bf16⟩
  | .local _ .vmem, ⟨4, _⟩ => ⟨S64x4096, .bf16⟩
  | .local _ .vmem, ⟨5, _⟩ => ⟨S16x64x4096, .bf16⟩
  | .local _ .vmem, ⟨6, _⟩ => ⟨S15x64x4096, .bf16⟩
  | .local _ .vmem, ⟨7, _⟩ => ⟨S32x64x128, .f32⟩
  | .local _ .vmem, ⟨8, _⟩ => ⟨S32x64x128, .f32⟩
  | .local _ .vmem, ⟨9, _⟩ => ⟨S5x8x128, .f32⟩
  | .local _ .vmem, ⟨10, _⟩ => ⟨S5x8x128, .f32⟩
  | _, _ => ⟨S128x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 139 → Bool
  | ⟨i, _⟩ => dmaSemScopedAt i

abbrev sig : RefSig :=
  (ofTc nBuf bufTy 2 139 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_55 : BitVec 32 := 1#32
  let v87 : BitVec 32 := Scalar.muli v7 c1_i32_55
  let v88 : BitVec 32 := Scalar.addi c0_i32_56 v87
  v88.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_62 : BitVec 32 := 1#32
  let v95 : BitVec 32 := Scalar.muli v5 c1_i32_62
  let v96 : BitVec 32 := Scalar.addi c0_i32_63 v95
  v96.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v105 : BitVec 32 := Scalar.muli v2 c128_i32
  let v106 : Index := Scalar.indexCast v105
  let c0_68 : Index := 0#32
  ![v106.toNat, 0]
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_81 : BitVec 32 := 1#32
  let v119 : BitVec 32 := Scalar.muli v7 c1_i32_81
  let v120 : BitVec 32 := Scalar.addi c0_i32_82 v119
  v120.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_98 : BitVec 32 := 1#32
  let v135 : BitVec 32 := Scalar.muli v5 c1_i32_98
  let v136 : BitVec 32 := Scalar.addi c0_i32_99 v135
  v136.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v85 : BitVec 32 := Scalar.addi v2 c31_i32
  let c32_i32_51 : BitVec 32 := 32#32
  let v86 : BitVec 32 := Scalar.remsi v85 c32_i32_51
  let c1_i32_114 : BitVec 32 := 1#32
  let v151 : BitVec 32 := Scalar.muli v86 c1_i32_114
  let v152 : BitVec 32 := Scalar.addi c0_i32_115 v151
  v152.toNat
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_19 : BitVec 32 := 1#32
  let v25 : BitVec 32 := Scalar.addi v2 c1_i32_19
  let c32_i32_20 : BitVec 32 := 32#32
  let v26 : BitVec 32 := Scalar.remsi v25 c32_i32_20
  let c1_i32_131 : BitVec 32 := 1#32
  let v173 : BitVec 32 := Scalar.muli v26 c1_i32_131
  let v174 : BitVec 32 := Scalar.addi c0_i32_132 v173
  v174.toNat
def k0_dev9 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_152 : BitVec 32 := 1#32
  let v197 : BitVec 32 := Scalar.muli v7 c1_i32_152
  let v198 : BitVec 32 := Scalar.addi c0_i32_153 v197
  v198.toNat
def k0_dev10 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_172 : BitVec 32 := 1#32
  let v215 : BitVec 32 := Scalar.muli v5 c1_i32_172
  let v216 : BitVec 32 := Scalar.addi c0_i32_173 v215
  v216.toNat
def k0_dev11 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v83 : BitVec 32 := Scalar.addi v2 c30_i32
  let c32_i32_50 : BitVec 32 := 32#32
  let v84 : BitVec 32 := Scalar.remsi v83 c32_i32_50
  let c1_i32_188 : BitVec 32 := 1#32
  let v231 : BitVec 32 := Scalar.muli v84 c1_i32_188
  let v232 : BitVec 32 := Scalar.addi c0_i32_189 v231
  v232.toNat
def k0_dev12 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_21 : BitVec 32 := 2#32
  let v27 : BitVec 32 := Scalar.addi v2 c2_i32_21
  let c32_i32_22 : BitVec 32 := 32#32
  let v28 : BitVec 32 := Scalar.remsi v27 c32_i32_22
  let c1_i32_205 : BitVec 32 := 1#32
  let v253 : BitVec 32 := Scalar.muli v28 c1_i32_205
  let v254 : BitVec 32 := Scalar.addi c0_i32_206 v253
  v254.toNat
def k0_dev13 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_226 : BitVec 32 := 1#32
  let v277 : BitVec 32 := Scalar.muli v7 c1_i32_226
  let v278 : BitVec 32 := Scalar.addi c0_i32_227 v277
  v278.toNat
def k0_dev14 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_246 : BitVec 32 := 1#32
  let v295 : BitVec 32 := Scalar.muli v5 c1_i32_246
  let v296 : BitVec 32 := Scalar.addi c0_i32_247 v295
  v296.toNat
def k0_dev15 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v81 : BitVec 32 := Scalar.addi v2 c29_i32
  let c32_i32_49 : BitVec 32 := 32#32
  let v82 : BitVec 32 := Scalar.remsi v81 c32_i32_49
  let c1_i32_262 : BitVec 32 := 1#32
  let v311 : BitVec 32 := Scalar.muli v82 c1_i32_262
  let v312 : BitVec 32 := Scalar.addi c0_i32_263 v311
  v312.toNat
def k0_dev16 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v29 : BitVec 32 := Scalar.addi v2 c3_i32
  let c32_i32_23 : BitVec 32 := 32#32
  let v30 : BitVec 32 := Scalar.remsi v29 c32_i32_23
  let c1_i32_279 : BitVec 32 := 1#32
  let v333 : BitVec 32 := Scalar.muli v30 c1_i32_279
  let v334 : BitVec 32 := Scalar.addi c0_i32_280 v333
  v334.toNat
def k0_dev17 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_312 : BitVec 32 := 1#32
  let v365 : BitVec 32 := Scalar.muli v7 c1_i32_312
  let v366 : BitVec 32 := Scalar.addi c0_i32_313 v365
  v366.toNat
def k0_dev18 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_332 : BitVec 32 := 1#32
  let v383 : BitVec 32 := Scalar.muli v5 c1_i32_332
  let v384 : BitVec 32 := Scalar.addi c0_i32_333 v383
  v384.toNat
def k0_dev19 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v79 : BitVec 32 := Scalar.addi v2 c28_i32
  let c32_i32_48 : BitVec 32 := 32#32
  let v80 : BitVec 32 := Scalar.remsi v79 c32_i32_48
  let c1_i32_348 : BitVec 32 := 1#32
  let v399 : BitVec 32 := Scalar.muli v80 c1_i32_348
  let v400 : BitVec 32 := Scalar.addi c0_i32_349 v399
  v400.toNat
def k0_dev20 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v31 : BitVec 32 := Scalar.addi v2 c4_i32
  let c32_i32_24 : BitVec 32 := 32#32
  let v32 : BitVec 32 := Scalar.remsi v31 c32_i32_24
  let c1_i32_365 : BitVec 32 := 1#32
  let v421 : BitVec 32 := Scalar.muli v32 c1_i32_365
  let v422 : BitVec 32 := Scalar.addi c0_i32_366 v421
  v422.toNat
def k0_dev21 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_422 : BitVec 32 := 1#32
  let v469 : BitVec 32 := Scalar.muli v7 c1_i32_422
  let v470 : BitVec 32 := Scalar.addi c0_i32_423 v469
  v470.toNat
def k0_dev22 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_442 : BitVec 32 := 1#32
  let v487 : BitVec 32 := Scalar.muli v5 c1_i32_442
  let v488 : BitVec 32 := Scalar.addi c0_i32_443 v487
  v488.toNat
def k0_dev23 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v77 : BitVec 32 := Scalar.addi v2 c27_i32
  let c32_i32_47 : BitVec 32 := 32#32
  let v78 : BitVec 32 := Scalar.remsi v77 c32_i32_47
  let c1_i32_458 : BitVec 32 := 1#32
  let v503 : BitVec 32 := Scalar.muli v78 c1_i32_458
  let v504 : BitVec 32 := Scalar.addi c0_i32_459 v503
  v504.toNat
def k0_dev24 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v33 : BitVec 32 := Scalar.addi v2 c5_i32
  let c32_i32_25 : BitVec 32 := 32#32
  let v34 : BitVec 32 := Scalar.remsi v33 c32_i32_25
  let c1_i32_475 : BitVec 32 := 1#32
  let v525 : BitVec 32 := Scalar.muli v34 c1_i32_475
  let v526 : BitVec 32 := Scalar.addi c0_i32_476 v525
  v526.toNat
def k0_dev25 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_532 : BitVec 32 := 1#32
  let v573 : BitVec 32 := Scalar.muli v7 c1_i32_532
  let v574 : BitVec 32 := Scalar.addi c0_i32_533 v573
  v574.toNat
def k0_dev26 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_552 : BitVec 32 := 1#32
  let v591 : BitVec 32 := Scalar.muli v5 c1_i32_552
  let v592 : BitVec 32 := Scalar.addi c0_i32_553 v591
  v592.toNat
def k0_dev27 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v75 : BitVec 32 := Scalar.addi v2 c26_i32
  let c32_i32_46 : BitVec 32 := 32#32
  let v76 : BitVec 32 := Scalar.remsi v75 c32_i32_46
  let c1_i32_568 : BitVec 32 := 1#32
  let v607 : BitVec 32 := Scalar.muli v76 c1_i32_568
  let v608 : BitVec 32 := Scalar.addi c0_i32_569 v607
  v608.toNat
def k0_dev28 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v35 : BitVec 32 := Scalar.addi v2 c6_i32
  let c32_i32_26 : BitVec 32 := 32#32
  let v36 : BitVec 32 := Scalar.remsi v35 c32_i32_26
  let c1_i32_585 : BitVec 32 := 1#32
  let v629 : BitVec 32 := Scalar.muli v36 c1_i32_585
  let v630 : BitVec 32 := Scalar.addi c0_i32_586 v629
  v630.toNat
def k0_dev29 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_642 : BitVec 32 := 1#32
  let v677 : BitVec 32 := Scalar.muli v7 c1_i32_642
  let v678 : BitVec 32 := Scalar.addi c0_i32_643 v677
  v678.toNat
def k0_dev30 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_662 : BitVec 32 := 1#32
  let v695 : BitVec 32 := Scalar.muli v5 c1_i32_662
  let v696 : BitVec 32 := Scalar.addi c0_i32_663 v695
  v696.toNat
def k0_dev31 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v73 : BitVec 32 := Scalar.addi v2 c25_i32
  let c32_i32_45 : BitVec 32 := 32#32
  let v74 : BitVec 32 := Scalar.remsi v73 c32_i32_45
  let c1_i32_678 : BitVec 32 := 1#32
  let v711 : BitVec 32 := Scalar.muli v74 c1_i32_678
  let v712 : BitVec 32 := Scalar.addi c0_i32_679 v711
  v712.toNat
def k0_dev32 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v37 : BitVec 32 := Scalar.addi v2 c7_i32
  let c32_i32_27 : BitVec 32 := 32#32
  let v38 : BitVec 32 := Scalar.remsi v37 c32_i32_27
  let c1_i32_695 : BitVec 32 := 1#32
  let v733 : BitVec 32 := Scalar.muli v38 c1_i32_695
  let v734 : BitVec 32 := Scalar.addi c0_i32_696 v733
  v734.toNat
def k0_dev33 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_752 : BitVec 32 := 1#32
  let v781 : BitVec 32 := Scalar.muli v7 c1_i32_752
  let v782 : BitVec 32 := Scalar.addi c0_i32_753 v781
  v782.toNat
def k0_dev34 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_772 : BitVec 32 := 1#32
  let v799 : BitVec 32 := Scalar.muli v5 c1_i32_772
  let v800 : BitVec 32 := Scalar.addi c0_i32_773 v799
  v800.toNat
def k0_dev35 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v71 : BitVec 32 := Scalar.addi v2 c24_i32
  let c32_i32_44 : BitVec 32 := 32#32
  let v72 : BitVec 32 := Scalar.remsi v71 c32_i32_44
  let c1_i32_788 : BitVec 32 := 1#32
  let v815 : BitVec 32 := Scalar.muli v72 c1_i32_788
  let v816 : BitVec 32 := Scalar.addi c0_i32_789 v815
  v816.toNat
def k0_dev36 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v39 : BitVec 32 := Scalar.addi v2 c8_i32
  let c32_i32_28 : BitVec 32 := 32#32
  let v40 : BitVec 32 := Scalar.remsi v39 c32_i32_28
  let c1_i32_805 : BitVec 32 := 1#32
  let v837 : BitVec 32 := Scalar.muli v40 c1_i32_805
  let v838 : BitVec 32 := Scalar.addi c0_i32_806 v837
  v838.toNat
def k0_dev37 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_862 : BitVec 32 := 1#32
  let v885 : BitVec 32 := Scalar.muli v7 c1_i32_862
  let v886 : BitVec 32 := Scalar.addi c0_i32_863 v885
  v886.toNat
def k0_dev38 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_882 : BitVec 32 := 1#32
  let v903 : BitVec 32 := Scalar.muli v5 c1_i32_882
  let v904 : BitVec 32 := Scalar.addi c0_i32_883 v903
  v904.toNat
def k0_dev39 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v69 : BitVec 32 := Scalar.addi v2 c23_i32
  let c32_i32_43 : BitVec 32 := 32#32
  let v70 : BitVec 32 := Scalar.remsi v69 c32_i32_43
  let c1_i32_898 : BitVec 32 := 1#32
  let v919 : BitVec 32 := Scalar.muli v70 c1_i32_898
  let v920 : BitVec 32 := Scalar.addi c0_i32_899 v919
  v920.toNat
def k0_dev40 (d0 : Dev nD) : Nat :=
  let c0_i32_916 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v41 : BitVec 32 := Scalar.addi v2 c9_i32
  let c32_i32_29 : BitVec 32 := 32#32
  let v42 : BitVec 32 := Scalar.remsi v41 c32_i32_29
  let c1_i32_915 : BitVec 32 := 1#32
  let v941 : BitVec 32 := Scalar.muli v42 c1_i32_915
  let v942 : BitVec 32 := Scalar.addi c0_i32_916 v941
  v942.toNat
def k0_dev41 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_972 : BitVec 32 := 1#32
  let v989 : BitVec 32 := Scalar.muli v7 c1_i32_972
  let v990 : BitVec 32 := Scalar.addi c0_i32_973 v989
  v990.toNat
def k0_dev42 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_992 : BitVec 32 := 1#32
  let v1007 : BitVec 32 := Scalar.muli v5 c1_i32_992
  let v1008 : BitVec 32 := Scalar.addi c0_i32_993 v1007
  v1008.toNat
def k0_dev43 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v67 : BitVec 32 := Scalar.addi v2 c22_i32
  let c32_i32_42 : BitVec 32 := 32#32
  let v68 : BitVec 32 := Scalar.remsi v67 c32_i32_42
  let c1_i32_1008 : BitVec 32 := 1#32
  let v1023 : BitVec 32 := Scalar.muli v68 c1_i32_1008
  let v1024 : BitVec 32 := Scalar.addi c0_i32_1009 v1023
  v1024.toNat
def k0_dev44 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v43 : BitVec 32 := Scalar.addi v2 c10_i32
  let c32_i32_30 : BitVec 32 := 32#32
  let v44 : BitVec 32 := Scalar.remsi v43 c32_i32_30
  let c1_i32_1025 : BitVec 32 := 1#32
  let v1045 : BitVec 32 := Scalar.muli v44 c1_i32_1025
  let v1046 : BitVec 32 := Scalar.addi c0_i32_1026 v1045
  v1046.toNat
def k0_dev45 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1082 : BitVec 32 := 1#32
  let v1093 : BitVec 32 := Scalar.muli v7 c1_i32_1082
  let v1094 : BitVec 32 := Scalar.addi c0_i32_1083 v1093
  v1094.toNat
def k0_dev46 (d0 : Dev nD) : Nat :=
  let c0_i32_1103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1102 : BitVec 32 := 1#32
  let v1111 : BitVec 32 := Scalar.muli v5 c1_i32_1102
  let v1112 : BitVec 32 := Scalar.addi c0_i32_1103 v1111
  v1112.toNat
def k0_dev47 (d0 : Dev nD) : Nat :=
  let c0_i32_1119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v65 : BitVec 32 := Scalar.addi v2 c21_i32
  let c32_i32_41 : BitVec 32 := 32#32
  let v66 : BitVec 32 := Scalar.remsi v65 c32_i32_41
  let c1_i32_1118 : BitVec 32 := 1#32
  let v1127 : BitVec 32 := Scalar.muli v66 c1_i32_1118
  let v1128 : BitVec 32 := Scalar.addi c0_i32_1119 v1127
  v1128.toNat
def k0_dev48 (d0 : Dev nD) : Nat :=
  let c0_i32_1136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v45 : BitVec 32 := Scalar.addi v2 c11_i32
  let c32_i32_31 : BitVec 32 := 32#32
  let v46 : BitVec 32 := Scalar.remsi v45 c32_i32_31
  let c1_i32_1135 : BitVec 32 := 1#32
  let v1149 : BitVec 32 := Scalar.muli v46 c1_i32_1135
  let v1150 : BitVec 32 := Scalar.addi c0_i32_1136 v1149
  v1150.toNat
def k0_dev49 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1192 : BitVec 32 := 1#32
  let v1197 : BitVec 32 := Scalar.muli v7 c1_i32_1192
  let v1198 : BitVec 32 := Scalar.addi c0_i32_1193 v1197
  v1198.toNat
def k0_dev50 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1212 : BitVec 32 := 1#32
  let v1215 : BitVec 32 := Scalar.muli v5 c1_i32_1212
  let v1216 : BitVec 32 := Scalar.addi c0_i32_1213 v1215
  v1216.toNat
def k0_dev51 (d0 : Dev nD) : Nat :=
  let c0_i32_1229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v63 : BitVec 32 := Scalar.addi v2 c20_i32
  let c32_i32_40 : BitVec 32 := 32#32
  let v64 : BitVec 32 := Scalar.remsi v63 c32_i32_40
  let c1_i32_1228 : BitVec 32 := 1#32
  let v1231 : BitVec 32 := Scalar.muli v64 c1_i32_1228
  let v1232 : BitVec 32 := Scalar.addi c0_i32_1229 v1231
  v1232.toNat
def k0_dev52 (d0 : Dev nD) : Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v47 : BitVec 32 := Scalar.addi v2 c12_i32
  let c32_i32_32 : BitVec 32 := 32#32
  let v48 : BitVec 32 := Scalar.remsi v47 c32_i32_32
  let c1_i32_1245 : BitVec 32 := 1#32
  let v1253 : BitVec 32 := Scalar.muli v48 c1_i32_1245
  let v1254 : BitVec 32 := Scalar.addi c0_i32_1246 v1253
  v1254.toNat
def k0_dev53 (d0 : Dev nD) : Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1302 : BitVec 32 := 1#32
  let v1301 : BitVec 32 := Scalar.muli v7 c1_i32_1302
  let v1302 : BitVec 32 := Scalar.addi c0_i32_1303 v1301
  v1302.toNat
def k0_dev54 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1322 : BitVec 32 := 1#32
  let v1319 : BitVec 32 := Scalar.muli v5 c1_i32_1322
  let v1320 : BitVec 32 := Scalar.addi c0_i32_1323 v1319
  v1320.toNat
def k0_dev55 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 32 := Scalar.addi v2 c19_i32
  let c32_i32_39 : BitVec 32 := 32#32
  let v62 : BitVec 32 := Scalar.remsi v61 c32_i32_39
  let c1_i32_1338 : BitVec 32 := 1#32
  let v1335 : BitVec 32 := Scalar.muli v62 c1_i32_1338
  let v1336 : BitVec 32 := Scalar.addi c0_i32_1339 v1335
  v1336.toNat
def k0_dev56 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v49 : BitVec 32 := Scalar.addi v2 c13_i32
  let c32_i32_33 : BitVec 32 := 32#32
  let v50 : BitVec 32 := Scalar.remsi v49 c32_i32_33
  let c1_i32_1355 : BitVec 32 := 1#32
  let v1357 : BitVec 32 := Scalar.muli v50 c1_i32_1355
  let v1358 : BitVec 32 := Scalar.addi c0_i32_1356 v1357
  v1358.toNat
def k0_dev57 (d0 : Dev nD) : Nat :=
  let c0_i32_1413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1412 : BitVec 32 := 1#32
  let v1405 : BitVec 32 := Scalar.muli v7 c1_i32_1412
  let v1406 : BitVec 32 := Scalar.addi c0_i32_1413 v1405
  v1406.toNat
def k0_dev58 (d0 : Dev nD) : Nat :=
  let c0_i32_1433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1432 : BitVec 32 := 1#32
  let v1423 : BitVec 32 := Scalar.muli v5 c1_i32_1432
  let v1424 : BitVec 32 := Scalar.addi c0_i32_1433 v1423
  v1424.toNat
def k0_dev59 (d0 : Dev nD) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v59 : BitVec 32 := Scalar.addi v2 c18_i32
  let c32_i32_38 : BitVec 32 := 32#32
  let v60 : BitVec 32 := Scalar.remsi v59 c32_i32_38
  let c1_i32_1448 : BitVec 32 := 1#32
  let v1439 : BitVec 32 := Scalar.muli v60 c1_i32_1448
  let v1440 : BitVec 32 := Scalar.addi c0_i32_1449 v1439
  v1440.toNat
def k0_dev60 (d0 : Dev nD) : Nat :=
  let c0_i32_1466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v51 : BitVec 32 := Scalar.addi v2 c14_i32
  let c32_i32_34 : BitVec 32 := 32#32
  let v52 : BitVec 32 := Scalar.remsi v51 c32_i32_34
  let c1_i32_1465 : BitVec 32 := 1#32
  let v1461 : BitVec 32 := Scalar.muli v52 c1_i32_1465
  let v1462 : BitVec 32 := Scalar.addi c0_i32_1466 v1461
  v1462.toNat
def k0_dev61 (d0 : Dev nD) : Nat :=
  let c0_i32_1523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1522 : BitVec 32 := 1#32
  let v1509 : BitVec 32 := Scalar.muli v7 c1_i32_1522
  let v1510 : BitVec 32 := Scalar.addi c0_i32_1523 v1509
  v1510.toNat
def k0_dev62 (d0 : Dev nD) : Nat :=
  let c0_i32_1549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v57 : BitVec 32 := Scalar.addi v2 c17_i32
  let c32_i32_37 : BitVec 32 := 32#32
  let v58 : BitVec 32 := Scalar.remsi v57 c32_i32_37
  let c1_i32_1548 : BitVec 32 := 1#32
  let v1533 : BitVec 32 := Scalar.muli v58 c1_i32_1548
  let v1534 : BitVec 32 := Scalar.addi c0_i32_1549 v1533
  v1534.toNat
def k0_dev63 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v53 : BitVec 32 := Scalar.addi v2 c15_i32
  let c32_i32_35 : BitVec 32 := 32#32
  let v54 : BitVec 32 := Scalar.remsi v53 c32_i32_35
  let c1_i32_1565 : BitVec 32 := 1#32
  let v1555 : BitVec 32 := Scalar.muli v54 c1_i32_1565
  let v1556 : BitVec 32 := Scalar.addi c0_i32_1566 v1555
  v1556.toNat
def k0_dev64 (d0 : Dev nD) : Nat :=
  let c0_i32_1629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v55 : BitVec 32 := Scalar.addi v2 c16_i32
  let c32_i32_36 : BitVec 32 := 32#32
  let v56 : BitVec 32 := Scalar.remsi v55 c32_i32_36
  let c1_i32_1628 : BitVec 32 := 1#32
  let v1609 : BitVec 32 := Scalar.muli v56 c1_i32_1628
  let v1610 : BitVec 32 := Scalar.addi c0_i32_1629 v1609
  v1610.toNat
def k0_dev65 (d0 : Dev nD) : Nat :=
  let c0_i32_1680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1674 : BitVec 32 := 1#32
  let v1653 : BitVec 32 := Scalar.xori v2 c1_i32_1674
  let c1_i32_1679 : BitVec 32 := 1#32
  let v1654 : BitVec 32 := Scalar.muli v1653 c1_i32_1679
  let v1655 : BitVec 32 := Scalar.addi c0_i32_1680 v1654
  v1655.toNat
def k0_dev66 (d0 : Dev nD) : Nat :=
  let c0_i32_1716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1710 : BitVec 32 := 2#32
  let v1685 : BitVec 32 := Scalar.xori v2 c2_i32_1710
  let c1_i32_1715 : BitVec 32 := 1#32
  let v1686 : BitVec 32 := Scalar.muli v1685 c1_i32_1715
  let v1687 : BitVec 32 := Scalar.addi c0_i32_1716 v1686
  v1687.toNat
def k0_dev67 (d0 : Dev nD) : Nat :=
  let c0_i32_1752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1746 : BitVec 32 := 4#32
  let v1717 : BitVec 32 := Scalar.xori v2 c4_i32_1746
  let c1_i32_1751 : BitVec 32 := 1#32
  let v1718 : BitVec 32 := Scalar.muli v1717 c1_i32_1751
  let v1719 : BitVec 32 := Scalar.addi c0_i32_1752 v1718
  v1719.toNat
def k0_dev68 (d0 : Dev nD) : Nat :=
  let c0_i32_1788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1782 : BitVec 32 := 8#32
  let v1749 : BitVec 32 := Scalar.xori v2 c8_i32_1782
  let c1_i32_1787 : BitVec 32 := 1#32
  let v1750 : BitVec 32 := Scalar.muli v1749 c1_i32_1787
  let v1751 : BitVec 32 := Scalar.addi c0_i32_1788 v1750
  v1751.toNat
def k0_dev69 (d0 : Dev nD) : Nat :=
  let c0_i32_1824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1818 : BitVec 32 := 16#32
  let v1781 : BitVec 32 := Scalar.xori v2 c16_i32_1818
  let c1_i32_1823 : BitVec 32 := 1#32
  let v1782 : BitVec 32 := Scalar.muli v1781 c1_i32_1823
  let v1783 : BitVec 32 := Scalar.addi c0_i32_1824 v1782
  v1783.toNat
def k0_off2 (d0 : Dev nD) (c1_i32_1862 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1861 : BitVec 32 := 32#32
  let v1817 : BitVec 32 := Scalar.addi v2 c32_i32_1861
  let v1818 : BitVec 32 := Scalar.subi v1817 c1_i32_1862
  let c32_i32_1863 : BitVec 32 := 32#32
  let v1819 : BitVec 32 := Scalar.remsi v1818 c32_i32_1863
  let c128_i32_1867 : BitVec 32 := 128#32
  let v1823 : BitVec 32 := Scalar.muli v1819 c128_i32_1867
  let v1824 : Index := Scalar.indexCast v1823
  let c0_1868 : Index := 0#32
  ![v1824.toNat, 0]
def k0_dev70 (d0 : Dev nD) : Nat :=
  let c0_i32_2490_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2489_r0 : BitVec 32 := 1#32
  let v2398_r0 : BitVec 32 := Scalar.muli v5 c1_i32_2489_r0
  let v2399_r0 : BitVec 32 := Scalar.addi c0_i32_2490_r0 v2398_r0
  v2399_r0.toNat
def k0_dev71 (d0 : Dev nD) : Nat :=
  let c0_i32_2493_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2492_r0 : BitVec 32 := 1#32
  let v2400_r0 : BitVec 32 := Scalar.muli v7 c1_i32_2492_r0
  let v2401_r0 : BitVec 32 := Scalar.addi c0_i32_2493_r0 v2400_r0
  v2401_r0.toNat
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.Steps.lean ====
/- The kernel's body as a short script of steps. A device's body is a prologue (the barrier, the staging of both
   operands, the first two ring transfers and its own block), then a list of steps each of which is one transfer, one
   wait, one block product or one round of the exchange of maxima, then an epilogue (the rounding to the grid and the
   exit handshake). Every later proof about the body goes through the steps, once per KIND of step. -/
module

public import proofs.«01_k».proof.Proof.Gen.KernelIdeal.Skeleton
public import proofs.«01_k».proof.Proof.Gen.KernelIdeal.Points

@[expose] public section

noncomputable section

namespace Cert.Amax

open Idealize.ShloMosaic Idealize.ShloMosaic.TcCoe
open Idealize.SL Idealize.SL.Sem
open Cert.KernelIdeal Cert.KernelIdeal.Gen

variable {F : FTy → Type} [FloatOps F]

/-- A program of the TensorCore's effects. -/
abbrev TP (F : FTy → Type) [FloatOps F] : Type → Type _ := Prog (TpuEff nD τ sig (Elt F) Λ₀ .tc)

/-! ## Addresses -/

/-- The device `r` places up the ring, as the kernel computes it. -/
def upWord (r : BitVec 32) (c : Dev nD) : ℕ :=
  (Scalar.addi 0#32 (Scalar.muli (Scalar.remsi (Scalar.addi (Scalar.remsi (Scalar.divsi (Dev.word c) 1#32) 32#32) r) 32#32) 1#32)).toNat
/-- The device one place down the ring, as the kernel computes it. -/
def downWord (c : Dev nD) : ℕ :=
  (Scalar.addi 0#32 (Scalar.muli (Scalar.remsi (Scalar.subi (Scalar.addi (Scalar.remsi (Scalar.divsi (Dev.word c) 1#32) 32#32) 32#32) 1#32) 32#32) 1#32)).toNat
/-- The device whose number differs by the mask `b`, as the kernel computes it. -/
def xorWord (b : BitVec 32) (c : Dev nD) : ℕ :=
  (Scalar.addi 0#32 (Scalar.muli (Scalar.xori (Scalar.remsi (Scalar.divsi (Dev.word c) 1#32) 32#32) b) 1#32)).toNat

theorem downWord_eq : ∀ c : Dev nD, downWord c = (c.val + 31) % 32 := by decide +kernel
theorem upWord_eq : ∀ (r : Fin 31) (c : Dev nD), upWord (BitVec.ofNat 32 (r.val + 1)) c = (c.val + (r.val + 1)) % 32 := by decide +kernel
theorem xorWord_eq : ∀ (s : Fin 5) (c : Dev nD), xorWord (BitVec.ofNat 32 (2 ^ s.val)) c = c.val ^^^ 2 ^ s.val := by decide +kernel

theorem xor_lt : ∀ (s : Fin 5) (c : Dev nD), c.val ^^^ 2 ^ s.val < nD := by decide +kernel

/-- The device `r + 1` places up the ring. -/
def upDev (r : Fin 31) (c : Dev nD) : Dev nD :=
  ⟨upWord (BitVec.ofNat 32 (r.val + 1)) c, by rw [upWord_eq]; exact Nat.mod_lt _ (by decide)⟩
/-- The right neighbour. -/
abbrev rightDev (c : Dev nD) : Dev nD := upDev 0 c
/-- The left neighbour. -/
def leftDev (c : Dev nD) : Dev nD := ⟨downWord c, by rw [downWord_eq]; exact Nat.mod_lt _ (by decide)⟩
/-- The partner in round `s` of the exchange of maxima. -/
def xorDev (s : Fin 5) (c : Dev nD) : Dev nD :=
  ⟨xorWord (BitVec.ofNat 32 (2 ^ s.val)) c, by rw [xorWord_eq]; exact xor_lt s c⟩

/-! ## The buffers, their slots and the semaphores -/

abbrev xM : Memref sig .tc .vmem S128x4096 .bf16 := Memref.whole cc0_stg0_0
abbrev wM : Memref sig .tc .vmem S4096x64 .bf16 := Memref.whole cc0_stg1_0
abbrev oM : Memref sig .tc .vmem S4096x64 .f32 := Memref.whole cc0_stg2_0
abbrev oxM : Memref sig .tc .vmem S128x4096 .bf16 := Memref.whole cc0_scratch0
abbrev owM : Memref sig .tc .vmem S64x4096 .bf16 := Memref.whole cc0_scratch1
abbrev wrM : Memref sig .tc .vmem S16x64x4096 .bf16 := Memref.whole cc0_scratch2
abbrev wlM : Memref sig .tc .vmem S15x64x4096 .bf16 := Memref.whole cc0_scratch3
abbrev ysM : Memref sig .tc .vmem S32x64x128 .f32 := Memref.whole cc0_scratch4
abbrev yrM : Memref sig .tc .vmem S32x64x128 .f32 := Memref.whole cc0_scratch5
abbrev asM : Memref sig .tc .vmem S5x8x128 .f32 := Memref.whole cc0_scratch6
abbrev arM : Memref sig .tc .vmem S5x8x128 .f32 := Memref.whole cc0_scratch7

theorem inb16 (h : Fin 16) : ∀ a, (![h.val, 0, 0] : Fin 3 → Nat) a + S1x64x4096.size a ≤ S16x64x4096.size a := by revert h; decide
theorem inb15 (h : Fin 15) : ∀ a, (![h.val, 0, 0] : Fin 3 → Nat) a + S1x64x4096.size a ≤ S15x64x4096.size a := by revert h; decide
theorem inb32 (h : Fin 31) : ∀ a, (![h.val + 1, 0, 0] : Fin 3 → Nat) a + S1x64x128.size a ≤ S32x64x128.size a := by revert h; decide
theorem inb5 (h : Fin 5) : ∀ a, (![h.val, 0, 0] : Fin 3 → Nat) a + S1x8x128.size a ≤ S5x8x128.size a := by revert h; decide
theorem inb5' (h : Fin 5) : ∀ a, (![h.val, 0, 0] : Fin 3 → Nat) a + S1x1x1.size a ≤ S5x8x128.size a := by revert h; decide
theorem sinb16 (h : Fin 16) : ∀ a, (![h.val] : Fin 1 → Nat) a + S1.size a ≤ S16.size a := by revert h; decide
theorem sinb15 (h : Fin 15) : ∀ a, (![h.val] : Fin 1 → Nat) a + S1.size a ≤ S15.size a := by revert h; decide
theorem sinb32 (h : Fin 31) : ∀ a, (![h.val + 1] : Fin 1 → Nat) a + S1.size a ≤ S32.size a := by revert h; decide
theorem sinb5 (h : Fin 5) : ∀ a, (![h.val] : Fin 1 → Nat) a + S1.size a ≤ S5.size a := by revert h; decide

/-- The rectangle of slot `h` of each slotted buffer. -/
abbrev rect16 (h : Fin 16) : Rect S16x64x4096 := Rect.unit (s := S16x64x4096) ![h.val, 0, 0] S1x64x4096.size (inb16 h)
abbrev rect15 (h : Fin 15) : Rect S15x64x4096 := Rect.unit (s := S15x64x4096) ![h.val, 0, 0] S1x64x4096.size (inb15 h)
abbrev rect32 (h : Fin 31) : Rect S32x64x128 := Rect.unit (s := S32x64x128) ![h.val + 1, 0, 0] S1x64x128.size (inb32 h)
abbrev rect5 (h : Fin 5) : Rect S5x8x128 := Rect.unit (s := S5x8x128) ![h.val, 0, 0] S1x8x128.size (inb5 h)

/-- Slot `h` of the buffer that receives from the left. -/
abbrev wrS (h : Fin 16) : Memref sig .tc .vmem S64x4096 .bf16 :=
  (wrM.slice (rect16 h) (fun _ => rfl)).squeeze S64x4096 squeezes_S1x64x4096_S64x4096
/-- Slot `h` of the buffer that receives from the right. -/
abbrev wlS (h : Fin 15) : Memref sig .tc .vmem S64x4096 .bf16 :=
  (wlM.slice (rect15 h) (fun _ => rfl)).squeeze S64x4096 squeezes_S1x64x4096_S64x4096
/-- Slot `r + 1` of the outgoing blocks. -/
abbrev ysS (r : Fin 31) : Memref sig .tc .vmem S64x128 .f32 :=
  (ysM.slice (rect32 r) (fun _ => rfl)).squeeze S64x128 squeezes_S1x64x128_S64x128
/-- Slot `r + 1` of the incoming blocks. -/
abbrev yrS (r : Fin 31) : Memref sig .tc .vmem S64x128 .f32 :=
  (yrM.slice (rect32 r) (fun _ => rfl)).squeeze S64x128 squeezes_S1x64x128_S64x128
/-- Slot `s` of the outgoing maxima. -/
abbrev asS (s : Fin 5) : Memref sig .tc .vmem S8x128 .f32 :=
  (asM.slice (rect5 s) (fun _ => rfl)).squeeze S8x128 squeezes_S1x8x128_S8x128
/-- Slot `s` of the incoming maxima. -/
abbrev arS (s : Fin 5) : Memref sig .tc .vmem S8x128 .f32 :=
  (arM.slice (rect5 s) (fun _ => rfl)).squeeze S8x128 squeezes_S1x8x128_S8x128

abbrev rsSem (h : Fin 16) : DmaSem sig := ((cc0_scratch8.slice (Rect.unit (s := S16) ![h.val] S1.size (sinb16 h))).squeeze S_ squeezes_S1_S_).sem
abbrev rvSem (h : Fin 16) : DmaSem sig := ((cc0_scratch9.slice (Rect.unit (s := S16) ![h.val] S1.size (sinb16 h))).squeeze S_ squeezes_S1_S_).sem
abbrev lsSem (h : Fin 15) : DmaSem sig := ((cc0_scratch10.slice (Rect.unit (s := S15) ![h.val] S1.size (sinb15 h))).squeeze S_ squeezes_S1_S_).sem
abbrev lvSem (h : Fin 15) : DmaSem sig := ((cc0_scratch11.slice (Rect.unit (s := S15) ![h.val] S1.size (sinb15 h))).squeeze S_ squeezes_S1_S_).sem
abbrev ysSem (r : Fin 31) : DmaSem sig := ((cc0_scratch12.slice (Rect.unit (s := S32) ![r.val + 1] S1.size (sinb32 r))).squeeze S_ squeezes_S1_S_).sem
abbrev yvSem (r : Fin 31) : DmaSem sig := ((cc0_scratch13.slice (Rect.unit (s := S32) ![r.val + 1] S1.size (sinb32 r))).squeeze S_ squeezes_S1_S_).sem
abbrev dsSem (s : Fin 5) : DmaSem sig := ((cc0_scratch14.slice (Rect.unit (s := S5) ![s.val] S1.size (sinb5 s))).squeeze S_ squeezes_S1_S_).sem
abbrev dvSem (s : Fin 5) : DmaSem sig := ((cc0_scratch15.slice (Rect.unit (s := S5) ![s.val] S1.size (sinb5 s))).squeeze S_ squeezes_S1_S_).sem
abbrev barSem : Sem sig := (SemArray.scalar (sig.barrier 0 rfl) : Sems sig S_).sem
abbrev exSem : Sem sig := cc0_scoped0.sem

/-! ## One effect each -/

theorem ww16 (h : Fin 16) : (wrS h).view.WordExact :=
  ((Memref.isWhole_whole _).wordExact_slice rfl _ (by revert h; decide)).reshape _ _
theorem ww15 (h : Fin 15) : (wlS h).view.WordExact :=
  ((Memref.isWhole_whole _).wordExact_slice rfl _ (by revert h; decide)).reshape _ _
theorem wwo : (owM : Memref sig .tc .vmem S64x4096 .bf16).view.WordExact := (Memref.isWhole_whole _).wordExact
theorem wwys (r : Fin 31) : (ysS r).view.WordExact := (View.wordExact_bits rfl).reshape _ _
theorem wwyr (r : Fin 31) : (yrS r).view.WordExact := (View.wordExact_bits rfl).reshape _ _
theorem wwas (s : Fin 5) : (asS s).view.WordExact := (View.wordExact_bits rfl).reshape _ _
theorem wwar (s : Fin 5) : (arS s).view.WordExact := (View.wordExact_bits rfl).reshape _ _

/-- Start the transfer of `src` to slot `h` of the right neighbour. -/
def eSendR (c : Dev nD) (h : Fin 16) (src : Memref sig .tc .vmem S64x4096 .bf16) (hs : src.view.WordExact) : TP F PUnit :=
  Prog.lift (.enqueueDma src (.remote (Dev.tc (rightDev c)) (wrS h) (.dma (rsSem h))) (.dma (rvSem h)) hs (ww16 h) ⟨⟨rfl, Or.inl rfl⟩, trivial⟩)
/-- Start the transfer of `src` to slot `h` of the left neighbour. -/
def eSendL (c : Dev nD) (h : Fin 15) (src : Memref sig .tc .vmem S64x4096 .bf16) (hs : src.view.WordExact) : TP F PUnit :=
  Prog.lift (.enqueueDma src (.remote (Dev.tc (leftDev c)) (wlS h) (.dma (lsSem h))) (.dma (lvSem h)) hs (ww15 h) ⟨⟨rfl, Or.inl rfl⟩, trivial⟩)
/-- Start the transfer of the block in slot `r + 1` to the device it belongs to. -/
def eSendY (c : Dev nD) (r : Fin 31) : TP F PUnit :=
  Prog.lift (.enqueueDma (ysS r) (.remote (Dev.tc (upDev r c)) (yrS r) (.dma (ysSem r))) (.dma (yvSem r)) (wwys r) (wwyr r) ⟨⟨rfl, Or.inl rfl⟩, trivial⟩)
/-- Start the transfer of the running maximum to the partner of round `s`. -/
def eSendD (c : Dev nD) (s : Fin 5) : TP F PUnit :=
  Prog.lift (.enqueueDma (asS s) (.remote (Dev.tc (xorDev s c)) (arS s) (.dma (dsSem s))) (.dma (dvSem s)) (wwas s) (wwar s) ⟨⟨rfl, Or.inl rfl⟩, trivial⟩)

/-- The source of the ring transfer `h`: the device's own operand, then the slot received before. -/
def srcR (h : Fin 16) : Memref sig .tc .vmem S64x4096 .bf16 := match h with
  | ⟨0, _⟩ => owM
  | ⟨n + 1, hn⟩ => wrS ⟨n, Nat.lt_of_succ_lt hn⟩
def srcL (h : Fin 15) : Memref sig .tc .vmem S64x4096 .bf16 := match h with
  | ⟨0, _⟩ => owM
  | ⟨n + 1, hn⟩ => wlS ⟨n, Nat.lt_of_succ_lt hn⟩
theorem wsrcR (h : Fin 16) : (srcR h).view.WordExact := match h with
  | ⟨0, _⟩ => wwo
  | ⟨n + 1, hn⟩ => ww16 ⟨n, Nat.lt_of_succ_lt hn⟩
theorem wsrcL (h : Fin 15) : (srcL h).view.WordExact := match h with
  | ⟨0, _⟩ => wwo
  | ⟨n + 1, hn⟩ => ww15 ⟨n, Nat.lt_of_succ_lt hn⟩

/-- A wait for a transfer from `src` to `dst` on the semaphore `s`. -/
def eWait {sh : Shape} {e : EltTy} (s : DmaSem sig) (src dst : Memref sig .tc .vmem sh e) (h1 : src.view.WordExact) (h2 : dst.view.WordExact) : TP F PUnit :=
  Prog.lift (.waitDma2 s src dst h1 h2)

/-- The rectangle read of slot `h`, of the two ring buffers. -/
def eLoadR (h : Fin 16) : TP F (Vec F S1x64x4096 .bf16) := Prog.lift (.load wrM (rect16 h).toLoadRect (View.loadsAt_vmem h_S1x64x4096))
def eLoadL (h : Fin 15) : TP F (Vec F S1x64x4096 .bf16) := Prog.lift (.load wlM (rect15 h).toLoadRect (View.loadsAt_vmem h_S1x64x4096))

/-- Store a block product in the outgoing slot `r + 1` (the old contents are read first and dropped). -/
def eStoreY (r : Fin 31) (v : Vec F S1x64x128 .f32) : TP F PUnit := do
  let _ ← (Prog.lift (.load ysM (rect32 r).toLoadRect (View.loadsAt_vmem h_S1x64x128)) : TP F (Vec F S1x64x128 .f32))
  Prog.lift (.store ysM (rect32 r) v Finset.univ (View.stores_vmem_bits_univ h_S1x64x128 rfl) (.inl rfl))

/-! ## The steps -/

/-- One step of a device's body. -/
inductive Step where
  | sendR (h : Fin 16) | sendL (h : Fin 15)
  | recvR (h : Fin 16) | recvL (h : Fin 15)
  | mulR (h : Fin 16) | mulL (h : Fin 15)
  | drainR (h : Fin 16) | drainL (h : Fin 15) | drainY (r : Fin 31)
  | red (s : Fin 5)
  | outY (r : Fin 31)
deriving DecidableEq

/-- The outgoing slot of the block made from the left-hand slot `h`: the device `h + 1` places down. -/
def slotR (h : Fin 16) : Fin 31 := ⟨30 - h.val, by omega⟩
/-- The outgoing slot of the block made from the right-hand slot `h`: the device `h + 1` places up. -/
def slotL (h : Fin 15) : Fin 31 := ⟨h.val, by omega⟩

/-- The block of the result in the rows of the device `r + 1` places down. -/
def eOut (c : Dev nD) (r : Fin 31) (v : Vec F S128x64 .f32) : TP F PUnit := do
  let _ ← (Prog.lift (.load oM (Rect.unit (s := S4096x64) (k0_off2 c (BitVec.ofNat 32 (1 + r.val))) S128x64.size (k0_off2_inb c r)).toLoadRect (View.loadsAt_vmem h_S128x64)) : TP F (Vec F S128x64 .f32))
  Prog.lift (.store oM (Rect.unit (s := S4096x64) (k0_off2 c (BitVec.ofNat 32 (1 + r.val))) S128x64.size (k0_off2_inb c r)) v Finset.univ (View.stores_vmem_bits_univ h_S128x64 rfl) (.inl rfl))

/-- What a step does on device `c`, from the device's rows `xv` of the first operand and the running maximum. -/
def Step.prog (c : Dev nD) (xv : Vec F S128x4096 .bf16) (a : F .f32) : Step → TP F (F .f32)
  | .sendR h => do eSendR c h (srcR h) (wsrcR h); pure a
  | .sendL h => do eSendL c h (srcL h) (wsrcL h); pure a
  | .recvR h => do eWait (rvSem h) (srcR h) (wrS h) (wsrcR h) (ww16 h); pure a
  | .recvL h => do eWait (lvSem h) (srcL h) (wlS h) (wsrcL h) (ww15 h); pure a
  | .mulR h => do
    let v ← eLoadR h
    eStoreY (slotR h) (k0_pay7 xv v)
    eSendY c (slotR h)
    pure (k0_pay8 xv a v)
  | .mulL h => do
    let v ← eLoadL h
    eStoreY (slotL h) (k0_pay7 xv v)
    eSendY c (slotL h)
    pure (k0_pay8 xv a v)
  | .drainR h => do eWait (rsSem h) (wrS h) (srcR h) (ww16 h) (wsrcR h); pure a
  | .drainL h => do eWait (lsSem h) (wlS h) (srcL h) (ww15 h) (wsrcL h); pure a
  | .drainY r => do eWait (ysSem r) (yrS r) (ysS r) (wwyr r) (wwys r); pure a
  | .red s => do
    let _ ← (Prog.lift (.load asM (rect5 s).toLoadRect (View.loadsAt_vmem h_S1x8x128)) : TP F (Vec F S1x8x128 .f32))
    Prog.lift (.store asM (rect5 s) (k0_pay95 a) Finset.univ (View.stores_vmem_bits_univ h_S1x8x128 rfl) (.inl rfl))
    eSendD c s
    eWait (dsSem s) (arS s) (asS s) (wwar s) (wwas s)
    eWait (dvSem s) (asS s) (arS s) (wwas s) (wwar s)
    let v ← (Prog.lift (.load arM (Rect.unit (s := S5x8x128) ![s.val, 0, 0] S1x1x1.size (inb5' s)).toLoadRect (View.loadsAt_vmem h_S1x1x1)) : TP F (Vec F S1x1x1 .f32))
    pure (k0_pay96 a v)
  | .outY r => do
    eWait (yvSem r) (ysS r) (yrS r) (wwys r) (wwyr r)
    let v ← (Prog.lift (.load yrM (rect32 r).toLoadRect (View.loadsAt_vmem h_S1x64x128)) : TP F (Vec F S1x64x128 .f32))
    eOut c r (k0_pay106 v)
    pure a

/-- A list of steps, run in order. -/
def run (c : Dev nD) (xv : Vec F S128x4096 .bf16) : List Step → F .f32 → TP F (F .f32)
  | [], a => pure a
  | s :: ss, a => do
    let a' ← s.prog c xv a
    run c xv ss a'

/-- The waits that hop `h` ends with: the transfers of two and three hops before. -/
def drains : ℕ → List Step
  | 0 | 1 => []
  | 2 => [.drainR 0, .drainL 0]
  | n + 3 => [.drainR (Fin.ofNat 16 (n + 1)), .drainL (Fin.ofNat 15 (n + 1)), .drainY (Fin.ofNat 31 (30 - n)), .drainY (Fin.ofNat 31 n)]

/-- Hop `h` of the two rings, for `h` below 14. -/
def hop (h : ℕ) : List Step :=
  [.recvR (Fin.ofNat 16 h), .sendR (Fin.ofNat 16 (h + 1)), .recvL (Fin.ofNat 15 h), .sendL (Fin.ofNat 15 (h + 1)), .mulR (Fin.ofNat 16 h), .mulL (Fin.ofNat 15 h)] ++ drains h

/-- The last two hops: the left-going ring is one hop shorter. -/
def lastHops : List Step :=
  [.recvR 14, .sendR 15, .recvL 14, .mulR 14, .mulL 14] ++ drains 14 ++ [.recvR 15, .mulR 15] ++ drains 15

/-- The hops of both rings. -/
def hops : List Step := ((List.range 14).flatMap hop) ++ lastHops
/-- The exchange of maxima, the blocks received, and the waits left. -/
def rest : List Step :=
  [.red 0, .red 1, .red 2, .red 3, .red 4] ++ (List.range 31).map (fun r => Step.outY (Fin.ofNat 31 r))
    ++ [.drainR 14, .drainL 14, .drainY 17, .drainY 13, .drainR 15, .drainY 16, .drainY 14, .drainY 15]
def script : List Step := hops ++ rest

/-- Up to the first ring transfers: the handshake, the operands staged. Returns the device's rows of the first operand. -/
def enter (c : Dev nD) : TP F (Vec F S128x4096 .bf16) := do
  semSignalWord (leftDev c) barSem 1#32
  semSignalWord (rightDev c) barSem 1#32
  semWaitWord barSem 2#32
  let v13 ← (Prog.lift (.load xM (Rect.unit (s := S128x4096) ![0, 0] S128x4096.size inb_S128x4096_S128x4096_0_0).toLoadRect (View.loadsAt_vmem h_S128x4096)) : TP F (Vec F S128x4096 .bf16))
  let _ ← (Prog.lift (.load oxM (Rect.unit (s := S128x4096) ![0, 0] S128x4096.size inb_S128x4096_S128x4096_0_0).toLoadRect (View.loadsAt_vmem h_S128x4096)) : TP F (Vec F S128x4096 .bf16))
  Prog.lift (.store oxM (Rect.unit (s := S128x4096) ![0, 0] S128x4096.size inb_S128x4096_S128x4096_0_0) (k0_pay2 v13) Finset.univ (View.stores_vmem h_S128x4096 ((Memref.isWhole_whole _).storeExact_slice rfl _ packedbf16_S128x4096_S128x4096_0_0) (fun _ => rfl)) (.inl rfl))
  let v18 ← (Prog.lift (.load wM (Rect.unit (s := S4096x64) ![0, 0] S4096x64.size inb_S4096x64_S4096x64_0_0).toLoadRect (View.loadsAt_vmem h_S4096x64)) : TP F (Vec F S4096x64 .bf16))
  let _ ← (Prog.lift (.load owM (Rect.unit (s := S64x4096) ![0, 0] S64x4096.size inb_S64x4096_S64x4096_0_0).toLoadRect (View.loadsAt_vmem h_S64x4096)) : TP F (Vec F S64x4096 .bf16))
  Prog.lift (.store owM (Rect.unit (s := S64x4096) ![0, 0] S64x4096.size inb_S64x4096_S64x4096_0_0) (k0_pay3 v18) Finset.univ (View.stores_vmem h_S64x4096 ((Memref.isWhole_whole _).storeExact_slice rfl _ packedbf16_S64x4096_S64x4096_0_0) (fun _ => rfl)) (.inl rfl))
  Prog.lift (.load oxM (Rect.unit (s := S128x4096) ![0, 0] S128x4096.size inb_S128x4096_S128x4096_0_0).toLoadRect (View.loadsAt_vmem h_S128x4096))

/-- The device's own block of the result. Returns its largest absolute value. -/
def ownBlock (c : Dev nD) (xv : Vec F S128x4096 .bf16) : TP F (F .f32) := do
  let v103 ← (Prog.lift (.load owM (Rect.unit (s := S64x4096) ![0, 0] S64x4096.size inb_S64x4096_S64x4096_0_0).toLoadRect (View.loadsAt_vmem h_S64x4096)) : TP F (Vec F S64x4096 .bf16))
  let _ ← (Prog.lift (.load oM (Rect.unit (s := S4096x64) (k0_off1 c) S128x64.size (k0_off1_inb c)).toLoadRect (View.loadsAt_vmem h_S128x64)) : TP F (Vec F S128x64 .f32))
  Prog.lift (.store oM (Rect.unit (s := S4096x64) (k0_off1 c) S128x64.size (k0_off1_inb c)) (k0_pay4 xv v103) Finset.univ (View.stores_vmem_bits_univ h_S128x64 rfl) (.inl rfl))
  pure (k0_pay5 xv v103)

/-- The result rounded to the grid of the maximum `a`. -/
def finish (a : F .f32) : TP F PUnit := do
  let v2385 ← (Prog.lift (.load oM (Rect.unit (s := S4096x64) ![0, 0] S4096x64.size inb_S4096x64_S4096x64_0_0).toLoadRect (View.loadsAt_vmem h_S4096x64)) : TP F (Vec F S4096x64 .f32))
  let _ ← (Prog.lift (.load oM (Rect.unit (s := S4096x64) ![0, 0] S4096x64.size inb_S4096x64_S4096x64_0_0).toLoadRect (View.loadsAt_vmem h_S4096x64)) : TP F (Vec F S4096x64 .f32))
  Prog.lift (.store oM (Rect.unit (s := S4096x64) ![0, 0] S4096x64.size inb_S4096x64_S4096x64_0_0) (k0_pay1 (k0_pay138 a) (k0_pay139 a v2385) (FloatOps.ofBits .f32 0x42FE0000#32) (k0_pay140 (F := F))) Finset.univ (View.stores_vmem_bits_univ h_S4096x64 rfl) (.inl rfl))

/-- The exit handshake. -/
def leave (c : Dev nD) : TP F PUnit := do
  semSignalWord (leftDev c) exSem 1#32
  semSignalWord (rightDev c) exSem 1#32
  semWaitWord exSem 2#32

/-- The whole body on device `c`. -/
def bodyOn (c : Dev nD) : TP F PUnit := do
  let xv ← enter c
  eSendR c 0 owM wwo
  eSendL c 0 owM wwo
  let a ← ownBlock c xv
  let a' ← run c xv script a
  finish a'
  leave c

end Cert.Amax

end
-- ==== Proof.Chans.lean ====
/- The mesh as a ring, the kernel's channels, and its semaphore cells.

   A CHANNEL is one transfer of the kernel: hop `h` of the right-going ring (`r h`), hop `h` of the left-going ring
   (`l h`), the block for the device `r + 1` places up (`y r`), round `s` of the exchange of maxima (`d s`). Each has a
   source, a destination, a device it goes to, a send cell and a receive cell. Beside them there are the barrier cell
   and the cell of the exit handshake. -/
module

public import proofs.«01_k».proof.Proof.Steps

@[expose] public section

noncomputable section

namespace Cert.Amax

open Idealize.ShloMosaic Idealize.ShloMosaic.TcCoe
open Idealize.SL Idealize.SL.Sem
open Cert.KernelIdeal Cert.KernelIdeal.Gen

/-! ## The ring -/

/-- The device `n` places up the ring. -/
def up (n : ℕ) (c : Dev nD) : Dev nD := ⟨(c.val + n) % 32, Nat.mod_lt _ (by decide)⟩
/-- The device `n` places down the ring. -/
def dn (n : ℕ) (c : Dev nD) : Dev nD := ⟨(c.val + 31 * n) % 32, Nat.mod_lt _ (by decide)⟩

theorem lt32 (c : Dev nD) : c.val < 32 := c.isLt

theorem up_dn (n : ℕ) (c : Dev nD) : up n (dn n c) = c := by
  have := lt32 c; apply Fin.ext; show ((c.val + 31 * n) % 32 + n) % 32 = c.val; omega
theorem dn_up (n : ℕ) (c : Dev nD) : dn n (up n c) = c := by
  have := lt32 c; apply Fin.ext; show ((c.val + n) % 32 + 31 * n) % 32 = c.val; omega
theorem up_up (n k : ℕ) (c : Dev nD) : up n (up k c) = up (n + k) c := by
  apply Fin.ext; show ((c.val + k) % 32 + n) % 32 = (c.val + (n + k)) % 32; omega
theorem dn_dn (n k : ℕ) (c : Dev nD) : dn n (dn k c) = dn (n + k) c := by
  apply Fin.ext; show ((c.val + 31 * k) % 32 + 31 * n) % 32 = (c.val + 31 * (n + k)) % 32; omega
theorem dn_eq_up (n k : ℕ) (h : n + k = 32) (c : Dev nD) : dn n c = up k c := by
  apply Fin.ext; show (c.val + 31 * n) % 32 = (c.val + k) % 32; omega
theorem up_zero (c : Dev nD) : up 0 c = c := by have := lt32 c; apply Fin.ext; show (c.val + 0) % 32 = c.val; omega
theorem dn_zero (c : Dev nD) : dn 0 c = c := by have := lt32 c; apply Fin.ext; show (c.val + 31 * 0) % 32 = c.val; omega

theorem upDev_eq (r : Fin 31) (c : Dev nD) : upDev r c = up (r.val + 1) c := Fin.ext (upWord_eq r c)
theorem leftDev_eq (c : Dev nD) : leftDev c = dn 1 c := Fin.ext (downWord_eq c)
theorem xorDev_val (s : Fin 5) (c : Dev nD) : (xorDev s c).val = c.val ^^^ 2 ^ s.val := xorWord_eq s c
theorem xorDev_xorDev (s : Fin 5) (c : Dev nD) : xorDev s (xorDev s c) = c :=
  Fin.ext (by rw [xorDev_val, xorDev_val, Nat.xor_assoc, Nat.xor_self, Nat.xor_zero])

/-! ## The channels -/

/-- One transfer of the kernel. -/
inductive Chan where
  | r (h : Fin 16) | l (h : Fin 15) | y (r : Fin 31) | d (s : Fin 5)
deriving DecidableEq

/-- Every channel. -/
def Chan.all : List Chan :=
  (List.finRange 16).map .r ++ (List.finRange 15).map .l ++ (List.finRange 31).map .y ++ (List.finRange 5).map .d
theorem Chan.mem_all (k : Chan) : k ∈ Chan.all := by cases k <;> simp [Chan.all]
theorem Chan.nodup_all : Chan.all.Nodup := by decide +kernel
instance : Fintype Chan := ⟨⟨Chan.all, Chan.nodup_all⟩, Chan.mem_all⟩

/-- A cell of a device's semaphores: the barrier, the exit handshake, or a channel's send or receive cell. -/
inductive CK where
  | bar | ex | snd (k : Chan) | rcv (k : Chan)
deriving DecidableEq

/-- Every cell. -/
def CK.all : List CK := .bar :: .ex :: (Chan.all.map .snd ++ Chan.all.map .rcv)
theorem CK.mem_all (k : CK) : k ∈ CK.all := by cases k <;> simp [CK.all, Chan.mem_all]
theorem CK.nodup_all : CK.all.Nodup := by decide +kernel
instance : Fintype CK := ⟨⟨CK.all, CK.nodup_all⟩, CK.mem_all⟩

/-- The shape and element type a channel moves. -/
def csh : Chan → Shape
  | .r _ | .l _ => S64x4096 | .y _ => S64x128 | .d _ => S8x128
def cel : Chan → EltTy
  | .r _ | .l _ => .bf16 | .y _ | .d _ => .f32

/-- Where a channel's transfer reads, on the sender. -/
def srcM : (k : Chan) → Memref sig .tc .vmem (csh k) (cel k)
  | .r h => srcR h | .l h => srcL h | .y r => ysS r | .d s => asS s
/-- Where it lands, on the receiver. -/
def dstM : (k : Chan) → Memref sig .tc .vmem (csh k) (cel k)
  | .r h => wrS h | .l h => wlS h | .y r => yrS r | .d s => arS s
/-- The send semaphore. -/
def sndS : Chan → DmaSem sig
  | .r h => rsSem h | .l h => lsSem h | .y r => ysSem r | .d s => dsSem s
/-- The receive semaphore. -/
def rcvS : Chan → DmaSem sig
  | .r h => rvSem h | .l h => lvSem h | .y r => yvSem r | .d s => dvSem s
/-- The device a channel goes to. -/
def peer : Chan → Dev nD → Dev nD
  | .r _, c => rightDev c | .l _, c => leftDev c | .y r, c => upDev r c | .d s, c => xorDev s c
/-- The device it comes from. -/
def frm : Chan → Dev nD → Dev nD
  | .r _, c => dn 1 c | .l _, c => up 1 c | .y r, c => dn (r.val + 1) c | .d s, c => xorDev s c

theorem frm_peer (k : Chan) (c : Dev nD) : frm k (peer k c) = c := by
  cases k with
  | r h => show dn 1 (upDev 0 c) = c; rw [upDev_eq]; exact dn_up 1 c
  | l h => show up 1 (leftDev c) = c; rw [leftDev_eq]; exact up_dn 1 c
  | y r => show dn (r.val + 1) (upDev r c) = c; rw [upDev_eq]; exact dn_up _ c
  | d s => exact xorDev_xorDev s c
theorem peer_frm (k : Chan) (c : Dev nD) : peer k (frm k c) = c := by
  cases k with
  | r h => show upDev 0 (dn 1 c) = c; rw [upDev_eq]; exact up_dn 1 c
  | l h => show leftDev (up 1 c) = c; rw [leftDev_eq]; exact dn_up 1 c
  | y r => show upDev r (dn (r.val + 1) c) = c; rw [upDev_eq]; exact up_dn _ c
  | d s => exact xorDev_xorDev s c

/-- A channel goes round the mesh. -/
def around (k : Chan) : Dev nD ≃ Dev nD := ⟨peer k, frm k, frm_peer k, peer_frm k⟩

theorem wsrcM (k : Chan) : (srcM k).view.WordExact := by
  cases k with
  | r h => exact wsrcR h
  | l h => exact wsrcL h
  | y r => exact wwys r
  | d s => exact wwas s
theorem wdstM (k : Chan) : (dstM k).view.WordExact := by
  cases k with
  | r h => exact ww16 h
  | l h => exact ww15 h
  | y r => exact wwyr r
  | d s => exact wwar s

/-- What a channel's transfer credits each of its two cells with. -/
def crd (k : Chan) : ℕ := (dstM k).view.dmaCredit
theorem crd_pos (k : Chan) : 0 < crd k :=
  View.dmaCredit_pos _ (by
    cases k with
    | r h => exact (by decide : 0 < S64x4096.numel)
    | l h => exact (by decide : 0 < S64x4096.numel)
    | y r => exact (by decide : 0 < S64x128.numel)
    | d s => exact (by decide : 0 < S8x128.numel))
theorem crd_src (k : Chan) : (srcM k).view.dmaCredit = crd k := by
  cases k with
  | r h => revert h; decide +kernel
  | l h => revert h; decide +kernel
  | y r => revert r; decide +kernel
  | d s => revert s; decide +kernel

/-! ## The cells -/

/-- The semaphore of a cell. -/
def csem : CK → SemLoc sig
  | .bar => .reg barSem | .ex => .reg exSem | .snd k => .dma (sndS k) | .rcv k => .dma (rcvS k)
/-- The cell on a device. -/
abbrev cell (c : Dev nD) (k : CK) : GSem nD τ sig := ((c : Thread nD τ), csem k)

/-- The cell of a semaphore, if it is one of the kernel's. -/
def decode (s : SemLoc sig) : Option CK := CK.all.find? fun k => csem k = s
theorem decode_csem : ∀ k : CK, decode (csem k) = some k := by decide +kernel
theorem csem_inj : Function.Injective csem := fun a b h => by
  have := decode_csem a; rw [h, decode_csem b] at this; exact (Option.some.inj this).symm
theorem cell_inj {c c' : Dev nD} {k k' : CK} (h : cell c k = cell c' k') : c = c' ∧ k = k' :=
  ⟨congrArg (fun g : GSem nD τ sig => g.1.1) h, csem_inj (congrArg Prod.snd h)⟩

/-- How many units a unit of a cell's duty is worth. -/
def amt : CK → ℕ
  | .bar | .ex => 1 | .snd k | .rcv k => crd k
theorem amt_pos (k : CK) : 0 < amt k := by
  cases k with
  | bar => exact Nat.one_pos
  | ex => exact Nat.one_pos
  | snd k => exact crd_pos k
  | rcv k => exact crd_pos k

/-- The level of a cell: nothing waited on is below what is still owed. Send cells and the staging are at 0. -/
def lvl : CK → ℕ
  | .bar => 1
  | .rcv (.r h) => 2 + 2 * h.val
  | .rcv (.l h) => 3 + 2 * h.val
  | .rcv (.d s) => 40 + s.val
  | .rcv (.y _) => 60
  | .ex => 70
  | .snd _ => 0

/-! ## What a device owes -/

/-- One thing a device owes when it starts: a unit at a neighbour's barrier or exit cell, a channel's landing. -/
inductive Due where
  | bl | br | el | er | ch (k : Chan)
deriving DecidableEq

/-- The cell it is owed to: the device, and which cell. -/
def dueDev (c : Dev nD) : Due → Dev nD
  | .bl | .el => leftDev c | .br | .er => rightDev c | .ch k => peer k c
def dueCK : Due → CK
  | .bl | .br => .bar | .el | .er => .ex | .ch k => .rcv k

/-- All of it, in the order paid. -/
def dues : List Due := .bl :: .br :: ((Chan.all.map Due.ch) ++ [.el, .er])

/-- A list of dues as tallies. -/
def obl (c : Dev nD) : List Due → CellTallies nD τ sig Unit
  | [] => 0
  | x :: l => obl c l + tallyAt (cell (dueDev c x) (dueCK x)) () (amt (dueCK x))

theorem obl_pos {c : Dev nD} {g : GSem nD τ sig} {u : Unit} : ∀ {l : List Due}, 0 < obl c l g u → ∃ x ∈ l, g = cell (dueDev c x) (dueCK x)
  | [], h => absurd h (Nat.lt_irrefl 0)
  | x :: l, h => by
    unfold obl at h
    rw [Pi.add_apply, Finsupp.add_apply, tallyAt_apply] at h
    by_cases hx : g = cell (dueDev c x) (dueCK x)
    · exact ⟨x, List.mem_cons_self, hx⟩
    · rw [if_neg (fun h' => hx h'.1), add_zero] at h
      obtain ⟨x', hm, hx'⟩ := obl_pos h
      exact ⟨x', List.mem_cons_of_mem _ hm, hx'⟩

theorem obl_perm (c : Dev nD) {l l' : List Due} (h : l.Perm l') : obl c l = obl c l' := by
  induction h with
  | nil => rfl
  | cons x _ ih => unfold obl; rw [ih]
  | swap x y l => simp only [obl]; rw [add_assoc, add_assoc, add_comm (tallyAt _ _ _)]
  | trans _ _ h1 h2 => exact h1.trans h2

end Cert.Amax

end
-- ==== Proof.Protocol.lean ====
/- The protocol: what each device sends on each channel, and what each cell hands to the device that waits on it.

   Every cell has one round. The barrier cell of a device has two units: its right neighbour's hands over that
   neighbour's slots for the right-going ring, its left neighbour's the slots for the left-going ring. A ring landing at
   hop `h` hands over the slot filled, and a BAG: the permissions to write into the buffers of the device the operand
   came from (the slot of the block and, where the two devices are partners in a round of the exchange of maxima, the
   slot of that round), for the receiver and for every device further along the ring. So a device writes into another
   only after that device has started. A send cell hands back the source; the exit cell hands over nothing. -/
module

public import proofs.«01_k».proof.Proof.Chans
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Amax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the launch library's copy and the kernel's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Conjunctions over lists -/

/-- The conjunction of `Φ` over a list. -/
def sepL {α : Type} (Φ : α → sProp 𝕄) : List α → sProp 𝕄
  | [] => iprop(emp)
  | x :: l => iprop(Φ x ∗ sepL Φ l)

theorem sepL_append {α : Type} (Φ : α → sProp 𝕄) (l l' : List α) : sepL Φ (l ++ l') = iprop(sepL Φ l ∗ sepL Φ l') := by
  induction l with
  | nil => exact (BI.Entails.antisymm (BI.emp_sep).1 (BI.emp_sep).2).symm
  | cons x l ih =>
    show iprop(Φ x ∗ sepL Φ (l ++ l')) = iprop((Φ x ∗ sepL Φ l) ∗ sepL Φ l')
    rw [ih]; exact equiv_iff.mp ⟨BI.sep_assoc', BI.sep_assoc⟩

theorem sepL_perm {α : Type} (Φ : α → sProp 𝕄) {l l' : List α} (h : l.Perm l') : sepL Φ l ⊢ sepL Φ l' := by
  induction h with
  | nil => exact BI.Entails.refl _
  | cons x _ ih => exact BI.sep_mono (BI.Entails.refl _) ih
  | swap x y l =>
    show iprop(Φ y ∗ Φ x ∗ sepL Φ l) ⊢ iprop(Φ x ∗ Φ y ∗ sepL Φ l)
    iintro ⟨H1, H2, H3⟩
    isplitl [H2]; · iexact H2
    isplitl [H1]; · iexact H1
    iexact H3
  | trans _ _ h1 h2 => exact h1.trans h2

theorem sepL_map {α β : Type} (Φ : β → sProp 𝕄) (g : α → β) (l : List α) : sepL Φ (l.map g) = sepL (fun x => Φ (g x)) l := by
  induction l with
  | nil => rfl
  | cons x l ih => show iprop(Φ (g x) ∗ sepL Φ (l.map g)) = _; rw [ih]; rfl

theorem sepL_mono {α : Type} {Φ Ψ : α → sProp 𝕄} {l : List α} (h : ∀ x ∈ l, Φ x ⊢ Ψ x) : sepL Φ l ⊢ sepL Ψ l := by
  induction l with
  | nil => exact BI.Entails.refl _
  | cons x l ih => exact BI.sep_mono (h x List.mem_cons_self) (ih fun y hy => h y (List.mem_cons_of_mem _ hy))

theorem sepL_congr {α : Type} {Φ Ψ : α → sProp 𝕄} {l : List α} (h : ∀ x ∈ l, Φ x = Ψ x) : sepL Φ l = sepL Ψ l :=
  BI.Entails.antisymm (sepL_mono fun x hx => Entails.of_eq (h x hx)) (sepL_mono fun x hx => Entails.of_eq (h x hx).symm)

theorem sepL_sep {α : Type} (Φ Ψ : α → sProp 𝕄) (l : List α) : sepL (fun x => iprop(Φ x ∗ Ψ x)) l ⊢ iprop(sepL Φ l ∗ sepL Ψ l) := by
  induction l with
  | nil => exact (BI.emp_sep).2
  | cons x l ih =>
    show iprop((Φ x ∗ Ψ x) ∗ sepL (fun x => iprop(Φ x ∗ Ψ x)) l) ⊢ iprop((Φ x ∗ sepL Φ l) ∗ (Ψ x ∗ sepL Ψ l))
    iintro ⟨⟨H1, H2⟩, H3⟩
    ihave H := ih $$ H3
    icases H with ⟨H4, H5⟩
    isplitl [H1 H4]
    · isplitl [H1] <;> iassumption
    · isplitl [H2] <;> iassumption

instance sepL_storable {α : Type} (Φ : α → sProp 𝕄) [h : ∀ x, BI.Storable (upEmb : UEmb _ 𝕄) (Φ x)] (l : List α) :
    BI.Storable (upEmb : UEmb _ 𝕄) (sepL Φ l) := by
  induction l with
  | nil => unfold sepL; infer_instance
  | cons x l ih => unfold sepL; infer_instance

/-! ## Values -/

/-- A value read along an equal count of elements, and back. -/
def flat {α : Type} {s s' : Shape} (h : s'.numel = s.numel) (v : s.Idx → α) : s'.Idx → α := fun x => v (Shape.reshapeEquiv h x)
def unflat {α : Type} {s s' : Shape} (h : s'.numel = s.numel) (w : s'.Idx → α) : s.Idx → α := fun y => w ((Shape.reshapeEquiv h).symm y)
theorem eq_unflat {α : Type} {s s' : Shape} (h : s'.numel = s.numel) {v : s.Idx → α} {w : s'.Idx → α} (e : flat h v = w) : v = unflat h w := by
  subst e; funext y; unfold unflat flat; rw [Equiv.apply_symm_apply]
theorem unflat_flat {α : Type} {s s' : Shape} (h : s'.numel = s.numel) (v : s.Idx → α) : unflat h (flat h v) = v := (eq_unflat h rfl).symm
theorem flat_unflat {α : Type} {s s' : Shape} (h : s'.numel = s.numel) (w : s'.Idx → α) : flat h (unflat h w) = w := by
  funext x; show w _ = w x; rw [Equiv.symm_apply_apply]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- A device's rows of the first operand, as staged; -/
def xstg (c : Dev nD) : (cc0_stg0_0 : Ref sig .tc).ty.Contents (Elt F) :=
  (win0_0.blk (0 : Fin 1)).view.read (Elt F) ((s₀ m ρ).mem ((c : Thread nD τ).loc main_arg0))
/-- its columns of the second. -/
def wstg (c : Dev nD) : (cc0_stg1_0 : Ref sig .tc).ty.Contents (Elt F) :=
  (win0_1.blk (0 : Fin 1)).view.read (Elt F) ((s₀ m ρ).mem ((c : Thread nD τ).loc main_arg1))
/-- The rows as the body holds them; -/
def xb (c : Dev nD) : Vec F S128x4096 .bf16 := k0_pay2 (xstg m ρ c)
/-- the columns, transposed. -/
def wt (c : Dev nD) : Vec F S64x4096 .bf16 := k0_pay3 (wstg m ρ c)

/-- The columns of device `o` as a slot holds them. -/
def wt1 (o : Dev nD) : Vec F S1x64x4096 .bf16 := unflat squeezes_S1x64x4096_S64x4096.numel_eq (wt m ρ o)
/-- The block of the result that device `c` makes for device `o`, transposed, as a slot holds it; -/
def blk1 (c o : Dev nD) : Vec F S1x64x128 .f32 := k0_pay7 (xb m ρ c) (wt1 m ρ o)
/-- and as it is sent. -/
def blk (c o : Dev nD) : Vec F S64x128 .f32 := flat squeezes_S1x64x128_S64x128.numel_eq (blk1 m ρ c o)

/-- The device whose columns the `n`-th block product uses. -/
def org (n : ℕ) (c : Dev nD) : Dev nD := if n % 2 = 0 then dn (n / 2 + 1) c else up (n / 2 + 1) c

/-- What a partner's slot of maxima reads: the maximum sent. -/
def cell1 (a : F .f32) : Vec F S1x1x1 .f32 := fun _ => k0_pay95 a fun i => ⟨0, by fin_cases i <;> decide⟩

/-- The running maximum after `n` updates: its own block, 31 more block products, five rounds of exchange. -/
def acc : ℕ → Dev nD → F .f32
  | 0, c => k0_pay5 (xb m ρ c) (wt m ρ c)
  | n + 1, c =>
    if n < 31 then k0_pay8 (xb m ρ c) (acc n c) (wt1 m ρ (org n c))
    else k0_pay96 (acc n c) (cell1 (acc n (xorDev (Fin.ofNat 5 (n - 31)) c)))

/-- What a device sends on a channel. -/
def val (c : Dev nD) : (k : Chan) → (csh k).Idx → Elt F (cel k)
  | .r h => wt m ρ (dn h.val c)
  | .l h => wt m ρ (up h.val c)
  | .y r => blk m ρ c (upDev r c)
  | .d s => flat squeezes_S1x8x128_S8x128.numel_eq (k0_pay95 (acc m ρ (31 + s.val) c))

/-! ## Ownership of a memref -/

/-- Device `c` holds the memref at a share, reading `w`. -/
def holds {s : Shape} {e : EltTy} (c : Dev nD) (M : Memref sig .tc .vmem s e) (q : PosShare TreeShare) (w : s.Idx → Elt F e) : sProp 𝕄 :=
  iprop(∃ f : Buf (Elt F) (M.view.loc (c : Thread nD τ)), ⌜M.view.read (Elt F) f = w⌝ ∗ (M.view.loc (c : Thread nD τ) ↦[M.view.set]{q} f))
/-- The memref of device `c` is held outright, whatever it contains. -/
def anyAt {s : Shape} {e : EltTy} (c : Dev nD) (M : Memref sig .tc .vmem s e) : sProp 𝕄 :=
  iprop(∃ f : Buf (Elt F) (M.view.loc (c : Thread nD τ)), M.view.loc (c : Thread nD τ) ↦[M.view.set]{fullShare} f)

omit [FloatOps F] in
instance holds_storable {s : Shape} {e : EltTy} (c : Dev nD) (M : Memref sig .tc .vmem s e) (q : PosShare TreeShare) (w : s.Idx → Elt F e) :
    BI.Storable (upEmb : UEmb _ 𝕄) (holds c M q w) := by unfold holds; infer_instance
omit [FloatOps F] in
instance anyAt_storable {s : Shape} {e : EltTy} (c : Dev nD) (M : Memref sig .tc .vmem s e) :
    BI.Storable (upEmb : UEmb _ 𝕄) (anyAt (F := F) c M) := by unfold anyAt; infer_instance

omit [FloatOps F] in
theorem anyAt_of_holds {s : Shape} {e : EltTy} (c : Dev nD) (M : Memref sig .tc .vmem s e) (w : s.Idx → Elt F e) :
    holds c M fullShare w ⊢ anyAt (F := F) c M := by
  unfold holds anyAt; iintro ⟨%f, -, H⟩; iexists f; iexact H

omit [FloatOps F] in
/-- A holding splits along its share, -/
theorem holds_split {s : Shape} {e : EltTy} (c : Dev nD) (M : Memref sig .tc .vmem s e) (q : PosShare TreeShare) (w : s.Idx → Elt F e) :
    holds c M q w ⊢ iprop(holds c M q.left w ∗ holds c M q.right w) := by
  unfold holds
  iintro ⟨%f, %hf, H⟩
  ihave H := (pointsTo_share (PosShare.mem_left_op_right q)).1 $$ H
  icases H with ⟨H1, H2⟩
  isplitl [H1]
  · iexists f; isplitr; · ipureintro; exact hf
    iexact H1
  · iexists f; isplitr; · ipureintro; exact hf
    iexact H2

omit [FloatOps F] in
/-- and the two parts join. -/
theorem holds_join {s : Shape} {e : EltTy} (c : Dev nD) (M : Memref sig .tc .vmem s e) (q : PosShare TreeShare) (w w' : s.Idx → Elt F e) :
    iprop(holds c M q.left w ∗ holds c M q.right w') ⊢ holds c M q w := by
  unfold holds
  iintro ⟨⟨%f, %hf, H1⟩, ⟨%g, -, H2⟩⟩
  ihave H := (persistent_entails_right (pointsTo_agree (ℓ := M.view.loc (c : Thread nD τ)) (I := M.view.set) (J := M.view.set) (q₁ := q.left) (q₂ := q.right) (f := f) (g := g))) $$ [H1 H2]
  · isplitl [H1] <;> iassumption
  icases H with ⟨%h, H1, H2⟩
  iexists f
  isplitr; · ipureintro; exact hf
  iapply (pointsTo_share (PosShare.mem_left_op_right q)).2
  isplitl [H1]; · iexact H1
  iapply (Entails.of_eq (pointsTo_congr (f := g) (g := f) fun i hi => ((h i (Finset.mem_inter.mpr ⟨hi, hi⟩)).1).symm))
  iexact H2

/-! ## Payloads -/

/-- The share of a channel's source that is lent to the transfer. -/
def shr : Chan → PosShare TreeShare
  | .r ⟨0, _⟩ => fullShare.left
  | .l ⟨0, _⟩ => fullShare.right.left
  | .r ⟨_ + 1, _⟩ | .l ⟨_ + 1, _⟩ => fullShare.left
  | .y _ | .d _ => fullShare

/-- The permission to send on a channel: the destination on the receiver. -/
def per (c : Dev nD) (k : Chan) : sProp 𝕄 := anyAt (peer k c) (dstM k)

/-- Whether the partner of round `s` is met on the right-going ring (its operand comes from below). -/
def below (s : Fin 5) (c : Dev nD) : Bool := xorDev s c = dn (2 ^ s.val) c
/-- The round of the exchange whose partner's operand may come at hop `h`. -/
def rnd : ℕ → List (Fin 5)
  | 0 => [0] | 1 => [1] | 3 => [2] | 7 => [3] | 15 => [4] | _ => []
/-- The permission for a round's transfer, if the partner is below; -/
def dR (c : Dev nD) (s : Fin 5) : sProp 𝕄 := if below s c then per c (.d s) else iprop(emp)
/-- and if it is above. -/
def dL (c : Dev nD) (s : Fin 5) : sProp 𝕄 := if below s c then iprop(emp) else per c (.d s)

/-- What device `c` is given with the operand of hop `h` of the right-going ring; -/
def giftR (c : Dev nD) (h : ℕ) : sProp 𝕄 := iprop(per c (.y (Fin.ofNat 31 (30 - h))) ∗ sepL (dR c) (rnd h))
/-- of the left-going ring. -/
def giftL (c : Dev nD) (h : ℕ) : sProp 𝕄 := iprop(per c (.y (Fin.ofNat 31 h)) ∗ sepL (dL c) (rnd h))
/-- The bag that travels with the right-going operand: the gifts of `n` more hops; -/
def bagR : ℕ → ℕ → Dev nD → sProp 𝕄
  | 0, _, _ => iprop(emp)
  | n + 1, h, c => iprop(giftR c h ∗ bagR n (h + 1) (up 1 c))
/-- with the left-going one. -/
def bagL : ℕ → ℕ → Dev nD → sProp 𝕄
  | 0, _, _ => iprop(emp)
  | n + 1, h, c => iprop(giftL c h ∗ bagL n (h + 1) (dn 1 c))

/-- What a landing hands over beside the data. -/
def extra (c : Dev nD) : Chan → sProp 𝕄
  | .r h => bagR (16 - h.val) h.val c
  | .l h => bagL (15 - h.val) h.val c
  | .y _ | .d _ => iprop(emp)

/-- What each cell hands to the device waiting on it (`b`: the unit of the barrier came from the right). -/
def pay (c : Dev nD) (b : Bool) : CK → sProp 𝕄
  | .bar => if b then sepL (fun h => anyAt (up 1 c) (wrS h)) (List.finRange 16) else sepL (fun h => anyAt (dn 1 c) (wlS h)) (List.finRange 15)
  | .ex => iprop(emp)
  | .snd k => holds c (srcM k) (shr k) (val m ρ c k)
  | .rcv k => iprop(holds c (dstM k) fullShare (val m ρ (frm k c) k) ∗ extra c k)

omit [FloatOps F] in
instance per_storable (c : Dev nD) (k : Chan) : BI.Storable (upEmb : UEmb _ 𝕄) (per (F := F) c k) := by unfold per; infer_instance
omit [FloatOps F] in
instance dR_storable (c : Dev nD) (s : Fin 5) : BI.Storable (upEmb : UEmb _ 𝕄) (dR (F := F) c s) := by unfold dR; split <;> infer_instance
omit [FloatOps F] in
instance dL_storable (c : Dev nD) (s : Fin 5) : BI.Storable (upEmb : UEmb _ 𝕄) (dL (F := F) c s) := by unfold dL; split <;> infer_instance
omit [FloatOps F] in
instance bagR_storable (n h : ℕ) (c : Dev nD) : BI.Storable (upEmb : UEmb _ 𝕄) (bagR (F := F) n h c) := by
  induction n generalizing h c with
  | zero => unfold bagR; infer_instance
  | succ n ih => unfold bagR giftR; have := ih (h + 1) (up 1 c); infer_instance
omit [FloatOps F] in
instance bagL_storable (n h : ℕ) (c : Dev nD) : BI.Storable (upEmb : UEmb _ 𝕄) (bagL (F := F) n h c) := by
  induction n generalizing h c with
  | zero => unfold bagL; infer_instance
  | succ n ih => unfold bagL giftL; have := ih (h + 1) (dn 1 c); infer_instance
omit [FloatOps F] in
instance extra_storable (c : Dev nD) (k : Chan) : BI.Storable (upEmb : UEmb _ 𝕄) (extra (F := F) c k) := by
  cases k <;> (unfold extra; infer_instance)
instance pay_storable (c : Dev nD) (b : Bool) (k : CK) : BI.Storable (upEmb : UEmb _ 𝕄) (pay m ρ c b k) := by
  cases k with
  | bar => unfold pay; dsimp only; split <;> infer_instance
  | ex => unfold pay; infer_instance
  | snd k => unfold pay; infer_instance
  | rcv k => unfold pay; infer_instance

/-! ## The schedule -/

/-- The duties of a cell: two units of a handshake, one transfer of a channel. -/
def ckDuties : CK → Finset Bool
  | .bar | .ex => Finset.univ | .snd _ | .rcv _ => {false}

/-- One round, round 0. -/
def sched : Rounds.Schedule (GSem nD τ sig) Bool 𝕄 where
  duties g r := if r = 0 ∧ g.1.2 = .tc then (match decode g.2 with | some k => ckDuties k | none => ∅) else ∅
  unitless _ := False
  amount g _ _ := match decode g.2 with | some k => amt k | none => 1
  payload g _ d := match decode g.2 with | some k => pay m ρ g.1.1 d k | none => iprop(emp)
  amount_pos g _ _ _ := by
    split
    · exact amt_pos _
    · exact Nat.one_pos

instance sched_payload_storable (g : GSem nD τ sig) (r : ℕ) (d : Bool) :
    BI.Storable (upEmb : UEmb _ 𝕄) ((sched (F := F) m ρ).payload g r d) := by
  dsimp only [sched]; split <;> infer_instance

section Sched
variable (c : Dev nD) (k : CK)

theorem duties_cell : (sched (F := F) m ρ).duties (cell c k) 0 = ckDuties k := by
  show (if 0 = 0 ∧ (cell c k).1.2 = .tc then (match decode (csem k) with | some k => ckDuties k | none => ∅) else ∅) = _
  rw [if_pos ⟨rfl, rfl⟩, decode_csem]
theorem duties_later (g : GSem nD τ sig) : ∀ r, 1 ≤ r → (sched (F := F) m ρ).duties g r = ∅ :=
  fun r hr => by dsimp only [sched]; rw [if_neg fun h => by omega]
theorem amount_cell (d : Bool) : (sched (F := F) m ρ).amount (cell c k) 0 d = amt k := by
  show (match decode (csem k) with | some k => amt k | none => 1) = _
  rw [decode_csem]
theorem payload_cell (d : Bool) : (sched (F := F) m ρ).payload (cell c k) 0 d = pay m ρ c d k := by
  show (match decode (csem k) with | some k => pay m ρ c d k | none => iprop(emp)) = _
  rw [decode_csem]
/-- What a wait takes off a cell. -/
def tot : CK → ℕ
  | .bar | .ex => 2 | .snd k | .rcv k => crd k
theorem expect_cell : (sched (F := F) m ρ).expect (cell c k) 0 = tot k := by
  unfold Schedule.expect Schedule.amountOf
  rw [duties_cell, Finset.sum_congr rfl fun d _ => amount_cell m ρ c k d, Finset.sum_const]
  cases k with
  | bar => rfl
  | ex => rfl
  | snd k => exact Nat.one_mul _
  | rcv k => exact Nat.one_mul _
/-- What a wait receives. -/
def got : CK → sProp 𝕄
  | .bar => iprop(pay m ρ c false .bar ∗ pay m ρ c true .bar)
  | .ex => iprop(emp)
  | .snd k => pay m ρ c false (.snd k)
  | .rcv k => pay m ρ c false (.rcv k)
theorem rest_cell : bigSep ((sched (F := F) m ρ).duties (cell c k) 0 \ ∅) (fun d => (sched (F := F) m ρ).payload (cell c k) 0 d) ⊢ got m ρ c k := by
  rw [Finset.sdiff_empty, duties_cell, bigSep_congr fun d _ => payload_cell m ρ c k d]
  cases k with
  | bar =>
    show bigSep Finset.univ _ ⊢ _
    rw [bigSep_univ_eq_bigSepL [false, true] (by decide) (by decide), bigSepL_cons_cons, bigSepL_singleton]
    exact BI.Entails.refl _
  | ex =>
    show bigSep Finset.univ (fun _ => iprop(emp)) ⊢ _
    exact Entails.of_eq (BI.bigSep_emp_const _)
  | snd k => show bigSep {false} _ ⊢ _; rw [bigSep_singleton]; exact BI.Entails.refl _
  | rcv k => show bigSep {false} _ ⊢ _; rw [bigSep_singleton]; exact BI.Entails.refl _

end Sched

/-! ## Levels -/

def L (g : GSem nD τ sig) : Finset Unit := if g.1.2 = .tc then {()} else ∅
def lv (g : GSem nD τ sig) (_ : Unit) : ℕ := match decode g.2 with | some k => lvl k | none => 0
theorem L_tc (c : Dev nD) (sm : SemLoc sig) : L ((c : Thread nD τ), sm) = {()} := if_pos rfl
theorem L_of_ne (g : GSem nD τ sig) (h : g.1.2 ≠ .tc) : L g = ∅ := if_neg h
theorem lv_cell (c : Dev nD) (k : CK) (u : Unit) : lv (cell c k) u = lvl k := by
  show (match decode (csem k) with | some k => lvl k | none => 0) = _
  rw [decode_csem]

omit [FloatOps F] in
/-- A device may wait on a semaphore below everything it owes. -/
theorem mayWait_sem (c : Dev nD) (sm : SemLoc sig) (l : List Due) (h : ∀ x ∈ l, lv ((c : Thread nD τ), sm) () < lvl (dueCK x)) :
    (levAts L lv : sProp 𝕄) ⊢ MayWait (c : Thread nD τ) sm () (obl c l) :=
  Pipeline.mayWait_of_levAts (by rw [L_tc]; exact Finset.mem_singleton_self _) fun g u hg => by
    obtain ⟨x, hx, rfl⟩ := obl_pos hg
    refine ⟨by rw [L_tc]; exact Finset.mem_singleton_self _, ?_⟩
    rw [lv_cell]; exact h x hx
omit [FloatOps F] in
theorem mayWait_cell (c : Dev nD) (k : CK) (l : List Due) (h : ∀ x ∈ l, lvl k < lvl (dueCK x)) :
    (levAts L lv : sProp 𝕄) ⊢ MayWait (c : Thread nD τ) (csem k) () (obl c l) :=
  mayWait_sem c (csem k) l fun x hx => by
    rw [lv_cell c k ()]; exact h x hx

end Cert.Amax

end
-- ==== Proof.Rules.lean ====
/- One rule per kind of effect of the kernel: starting a channel's transfer, waiting on a cell, reading a slot, storing
   into a slot. Each is stated once, for every channel or every slot. -/
module

public import proofs.«01_k».proof.Proof.Protocol

@[expose] public section

noncomputable section

namespace Cert.Amax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What it takes for a program of device `c` to reach `Q`. -/
abbrev WP {α : Type} (c : Dev nD) (p : TP F α) (Q : α → sProp 𝕄) : sProp 𝕄 :=
  wp frame (wpE (defs₀ (F := F)) 𝒱₀ (c : Thread nD τ) none) Set.univ p Q

variable (m : (ℓ : Loc nD τ sig) → Buf (Elt F) ℓ) (ρ : Dev nD → PrngReg) (K : Dev nD × CK → ℕ)

/-- What every device knows: each cell's invariant, that each cell is at round 0, the levels. -/
def records : sProp 𝕄 :=
  iprop((bigSep Finset.univ fun ck : Dev nD × CK => cellInv ER (sched m ρ) (K ck) (cell ck.1 ck.2))
    ∗ bigSep Finset.univ fun ck : Dev nD × CK => reached ER (cell ck.1 ck.2) 0)
def env : sProp 𝕄 := iprop(records m ρ K ∗ levAts L lv)

instance records_persistent : BI.Persistent (records m ρ K) := by unfold records; infer_instance
instance env_persistent : BI.Persistent (env m ρ K) := by unfold env; infer_instance

theorem records_inv (ck : Dev nD × CK) :
    (bigSep Finset.univ fun ck : Dev nD × CK => (cellInv ER (sched m ρ) (K ck) (cell ck.1 ck.2) : sProp 𝕄)) ⊢ cellInv ER (sched m ρ) (K ck) (cell ck.1 ck.2) :=
  bigSep_elim (Finset.mem_univ ck)
omit [FloatOps F] in
theorem records_reached (ck : Dev nD × CK) :
    (bigSep Finset.univ fun ck : Dev nD × CK => (reached ER (cell ck.1 ck.2) 0 : sProp 𝕄)) ⊢ reached ER (cell ck.1 ck.2) 0 :=
  bigSep_elim (Finset.mem_univ ck)
theorem env_inv (c : Dev nD) (k : CK) : env m ρ K ⊢ cellInv ER (sched m ρ) (K (c, k)) (cell c k) := by
  unfold env records
  iintro ⟨⟨H, -⟩, -⟩
  iapply (records_inv m ρ K (c, k)); iexact H
theorem env_reached (c : Dev nD) (k : CK) : env m ρ K ⊢ reached ER (cell c k) 0 := by
  unfold env records
  iintro ⟨⟨-, H⟩, -⟩
  iapply (records_reached (F := F) (c, k)); iexact H
theorem env_mayWait (c : Dev nD) (k : CK) (l : List Due) (h : ∀ x ∈ l, lvl k < lvl (dueCK x)) :
    env m ρ K ⊢ MayWait (c : Thread nD τ) (csem k) () (obl c l) := by
  unfold env; iintro ⟨-, H⟩
  iapply (mayWait_cell c k l h); iexact H

/-! ## Ghost state of a cell -/

/-- What device `c` needs to send on channel `k`: the tokens of its send cell and of the receiver's receive cell, and
    its position at its send cell; -/
def tok (c : Dev nD) (k : Chan) : sProp 𝕄 :=
  iprop(dutyTok ER (cell c (.snd k)) 0 false ∗ dutyTok ER (cell (peer k c) (.rcv k)) 0 false ∗ atPos ER (cell c (.snd k)) 0 ∅ 0)
/-- what it needs to wait on one of its cells: the credit and its position. -/
def pos (c : Dev nD) (k : CK) : sProp 𝕄 :=
  iprop(cred (tallyAt (cell c k) () (tot k)) ∗ atPos ER (cell c k) 0 ∅ 0)
/-- The cell is closed, its counter zero. -/
def zero (c : Dev nD) (k : CK) : sProp 𝕄 := semVal (cell c k) 0
/-- What the device owes. -/
def due (c : Dev nD) (l : List Due) : sProp 𝕄 := iprop(∃ W, owes (c : Thread nD τ) (obl c l) W)

/-- The transfer of a channel. -/
def eSend (c : Dev nD) (k : Chan) : TP F PUnit :=
  Prog.lift (.enqueueDma (srcM k) (.remote (Dev.tc (peer k c)) (dstM k) (.dma (sndS k)) (by cases k <;> rfl)) (.dma (rcvS k)) (wsrcM k) (wdstM k)
    (by cases k <;> exact ⟨⟨rfl, Or.inl rfl⟩, trivial⟩))

/-- Starting a channel's transfer: the source's share, the permission at the receiver and what travels along go in; the
    device owes the landing no more. -/
theorem wp_ch (c : Dev nD) (k : Chan) (l : List Due) {Q : PUnit → sProp 𝕄} :
    iprop(env m ρ K ∗ tok c k ∗ holds c (srcM k) (shr k) (val m ρ c k) ∗ per c k ∗ extra (peer k c) k ∗ due c (.ch k :: l))
      ⊢ iprop((pos c (.snd k) ∗ due c l -∗ Q ⟨⟩) -∗ WP c (eSend c k) Q) := by
  unfold tok holds per anyAt due
  iintro ⟨#HE, ⟨Ht1, Ht2, Hat⟩, ⟨%fs, %hfs, Hs⟩, ⟨%fd, Hd⟩, Hx, ⟨%W, Ho⟩⟩ Hk
  unfold eSend
  simp only [Prog.lift]
  iapply (Rounds.wp_send_pointsTo_with 𝒱₀ ER (sched m ρ) (c : Thread nD τ) none (κ₁ := K (c, .snd k)) (κ₂ := K (peer k c, .rcv k))
    (r₁ := 0) (r₂ := 0) (d₁ := false) (d₂ := false) (fs := fs) (fd := fd) (q := shr k) (F := extra (peer k c) k)
    (sS := csem (.snd k)) (sem := csem (.rcv k)) (c' := (peer k c : Thread nD τ))
    (hd₁ := by rw [duties_cell]; exact Finset.mem_singleton_self _)
    (hd₂ := by rw [duties_cell]; exact Finset.mem_singleton_self _)
    () () (crd k) rfl
    (amount_cell m ρ c (.snd k) false) (amount_cell m ρ (peer k c) (.rcv k) false) (obl c l) rfl (W := W)
    (hpay₁ := by
      rw [payload_cell]
      unfold pay holds
      iintro H; iexists fs; isplitr; · ipureintro; exact hfs
      iexact H)
    (hpay₂ := by
      rw [payload_cell]
      unfold pay holds
      iintro ⟨H, Hx⟩
      isplitl [H]
      · iexists _
        isplitr
        rotate_left
        · iexact H
        · ipureintro; rw [View.read_write_univ, frm_peer, hfs]
      · iexact Hx)) $$ [Hs Hd Hx Ho Ht1 Ht2]
  · isplitr; · iapply (env_inv m ρ K c (.snd k)); iexact HE
    isplitr; · iapply (env_inv m ρ K (peer k c) (.rcv k)); iexact HE
    isplitl [Hs]; · iexact Hs
    isplitl [Hd Hx]
    · isplitl [Hd] <;> iassumption
    isplitl [Ho]; · iexact Ho
    isplitl [Ht1]; · iexact Ht1
    isplitr; · iapply (env_reached m ρ K c (.snd k)); iexact HE
    isplitl [Ht2]; · iexact Ht2
    iapply (env_reached m ρ K (peer k c) (.rcv k)); iexact HE
  iintro ⟨Hc, Ho⟩
  rw [wp_ret]; imodintro
  iapply Hk
  isplitl [Hc Hat]
  · unfold pos; isplitl [Hc]; · iexact Hc
    iexact Hat
  · iexists W; iexact Ho

/-- Waiting on a cell: the round's payload comes, and the cell closes. -/
theorem wp_cell (c : Dev nD) (k : CK) (l : List Due) (w : TpuEff nD τ sig (Elt F) Λ₀ .tc PUnit)
    (hw : ∀ K' : PUnit → sProp 𝕄, wpE (defs₀ (F := F)) 𝒱₀ (c : Thread nD τ) none Set.univ w K' = waitSpec (c : Thread nD τ) Set.univ (csem k) (tot k) K')
    (hl : ∀ x ∈ l, lvl k < lvl (dueCK x)) {Q : PUnit → sProp 𝕄} :
    iprop(env m ρ K ∗ pos c k ∗ due c l) ⊢ iprop((got m ρ c k ∗ zero c k ∗ due c l -∗ Q ⟨⟩) -∗ WP c (Prog.lift w) Q) := by
  unfold pos due zero
  iintro ⟨#HE, ⟨Hc, Hat⟩, ⟨%W, Ho⟩⟩ Hk
  simp only [Prog.lift]
  iapply (Rounds.wp_wait_rest_token 𝒱₀ ER (sched m ρ) (c : Thread nD τ) none (κ := K (c, k)) (sm := csem k) (k' := tot k)
    hw (Set.mem_univ _) () (O := obl c l) (W := W) (R := 0) (m := 0) (T := ∅)
    (by rw [Nat.zero_add, expect_cell])) $$ [Hc Hat Ho]
  · isplitr; · iapply (env_inv m ρ K c k); iexact HE
    isplitl [Hc]; · iexact Hc
    isplitl [Ho]; · iexact Ho
    isplitr; · iapply (env_mayWait m ρ K c k l hl); iexact HE
    iexact Hat
  iintro ⟨Ho, Hat, -, Hpay⟩
  ihave Hg := (rest_cell m ρ c k) $$ Hpay
  imod (Rounds.cell_close ER (sched m ρ) (Set.mem_univ (K (c, k))) (fun h => h) (R := 0 + 1) (duties_later m ρ (cell c k))) $$ [Hat] with Hz
  · isplitr; · iapply (env_inv m ρ K c k); iexact HE
    iexact Hat
  rw [wp_ret]; imodintro
  iapply Hk
  isplitl [Hg]; · iexact Hg
  isplitl [Hz]; · iexact Hz
  iexists _; iexact Ho

/-- A wait for a transfer. -/
theorem wp_eWait (c : Dev nD) (k : CK) (l : List Due) {sh : Shape} {e : EltTy} (s : DmaSem sig) (src dst : Memref sig .tc .vmem sh e)
    (h1 : src.view.WordExact) (h2 : dst.view.WordExact) (hs : csem k = .dma s) (ht : tot k = dst.view.dmaCredit)
    (hl : ∀ x ∈ l, lvl k < lvl (dueCK x)) {Q : PUnit → sProp 𝕄} :
    iprop(env m ρ K ∗ pos c k ∗ due c l) ⊢ iprop((got m ρ c k ∗ zero c k ∗ due c l -∗ Q ⟨⟩) -∗ WP c (eWait (F := F) s src dst h1 h2) Q) :=
  wp_cell m ρ K c k l (.waitDma2 s src dst h1 h2) (fun K' => by rw [hs, ht]; exact wpE_waitDma2_eq 𝒱₀ (c : Thread nD τ) none Set.univ K') hl

/-- A unit signalled on a handshake cell. -/
theorem wp_unit (c e : Dev nD) (k : CK) (s : Sem sig) (hs : csem k = .reg s) (hk : ckDuties k = Finset.univ) (ha : amt k = 1) (b : Bool) (x : Due) (l : List Due)
    (hx : dueDev c x = e) (hxk : dueCK x = k) {Q : PUnit → sProp 𝕄} :
    iprop(env m ρ K ∗ dutyTok ER (cell e k) 0 b ∗ pay m ρ e b k ∗ due c (x :: l))
      ⊢ iprop((due c l -∗ Q ⟨⟩) -∗ WP c (semSignalWord e s 1#32) Q) := by
  subst hx hxk
  unfold due
  iintro ⟨#HE, Ht, Hp, ⟨%W, Ho⟩⟩ Hk
  simp only [semSignalWord]
  have hcell : (((dueDev c x : Thread nD τ), SemLoc.reg s) : GSem nD τ sig) = cell (dueDev c x) (dueCK x) := by rw [← hs]
  iapply (Rounds.wp_signal 𝒱₀ ER (sched m ρ) (c : Thread nD τ) none (dst := (dueDev c x : Thread nD τ)) (sem := s) (κ := K (dueDev c x, dueCK x)) (r := 0)
      (d := b) (k' := (1#32 : BitVec 32).toInt.toNat) (by rw [hcell, duties_cell, hk]; exact Finset.mem_univ _) (by rw [hcell, amount_cell, ha]; decide) () (O₀ := obl c (x :: l)) (obl c l)
      (by rw [hcell]; show obl c l + tallyAt _ () (amt _) = _; rw [ha]; rfl) (W := W))
    $$ [Ho Ht Hp]
  · rw [hcell, payload_cell]
    isplitr; · iapply (env_inv m ρ K (dueDev c x) (dueCK x)); iexact HE
    isplitl [Ho]; · iexact Ho
    isplitl [Ht]; · iexact Ht
    isplitl [Hp]; · iexact Hp
    iapply (env_reached m ρ K (dueDev c x) (dueCK x)); iexact HE
  iintro Ho
  rw [wp_ret]; imodintro
  iapply Hk
  iexists W; iexact Ho

/-! ## Slots -/

section Slots

variable {s s' : Shape} {e : EltTy} (M : Memref sig .tc .vmem s e) (r : Rect s) (hr : ∀ a, r.stride a = 1) (hq : r.shape.Squeezes s')

/-- The slot of `M` at the rectangle `r`. -/
abbrev slot : Memref sig .tc .vmem s' e := (M.slice r hr).squeeze s' hq

theorem slot_set : (slot M r hr hq).view.set = (M.access r).set := View.set_reshape _ _
theorem slot_read (f : M.view.ty.Contents (Elt F)) :
    (slot M r hr hq).view.read (Elt F) f = flat hq.numel_eq ((M.access r).read (Elt F) f) := rfl

/-- Reading a slot's rectangle. -/
theorem wp_ld (c : Dev nD) (q : PosShare TreeShare) (w : s'.Idx → Elt F e) (hl : M.view.LoadsAt r.toLoadRect) {Q : (r.shape.Idx → Elt F e) → sProp 𝕄} :
    holds c (slot M r hr hq) q w
      ⊢ iprop((holds c (slot M r hr hq) q w -∗ Q (unflat hq.numel_eq w)) -∗ WP c (Prog.lift (.load M r.toLoadRect hl)) Q) := by
  unfold holds
  iintro ⟨%f, %hf, H⟩ Hk
  simp only [Prog.lift]
  iapply (wp_load_rect 𝒱₀ (c : Thread nD τ) none Set.univ (m := M) (r := r) (S := (slot M r hr hq).view.set) (by rw [slot_set M r hr hq])) $$ H
  iintro H
  rw [wp_ret]; imodintro
  rw [slot_read M r hr hq] at hf
  rw [eq_unflat _ hf]
  iapply Hk
  iexists f
  isplitr; · ipureintro; rw [slot_read M r hr hq]; exact hf
  iexact H

/-- Reading a slot whose contents do not matter. -/
theorem wp_ld_any (c : Dev nD) (hl : M.view.LoadsAt r.toLoadRect) {Q : (r.shape.Idx → Elt F e) → sProp 𝕄} :
    anyAt c (slot M r hr hq)
      ⊢ iprop((∀ v, anyAt c (slot M r hr hq) -∗ Q v) -∗ WP c (Prog.lift (.load M r.toLoadRect hl)) Q) := by
  unfold anyAt
  iintro ⟨%f, H⟩ Hk
  simp only [Prog.lift]
  iapply (wp_load_rect 𝒱₀ (c : Thread nD τ) none Set.univ (m := M) (r := r) (S := (slot M r hr hq).view.set) (by rw [slot_set M r hr hq])) $$ H
  iintro H
  rw [wp_ret]; imodintro
  iapply Hk
  iexists f; iexact H

/-- Storing into a slot. -/
theorem wp_st (c : Dev nD) (v : r.shape.Idx → Elt F e) (hx : (M.access r).Stores Finset.univ) (hm : (Finset.univ : Finset r.shape.Idx) = Finset.univ ∨ ∀ a, r.stride a = 1)
    {Q : PUnit → sProp 𝕄} :
    anyAt c (slot M r hr hq)
      ⊢ iprop((holds c (slot M r hr hq) fullShare (flat hq.numel_eq v) -∗ Q ⟨⟩) -∗ WP c (Prog.lift (.store M r v Finset.univ hx hm)) Q) := by
  unfold anyAt holds
  iintro ⟨%f, H⟩ Hk
  simp only [Prog.lift]
  iapply (wp_store 𝒱₀ (c : Thread nD τ) none Set.univ (m := M) (r := r) (S := (slot M r hr hq).view.set) (f := f)
    ((View.setOn_subset_set _ _).trans (by rw [slot_set M r hr hq]))) $$ H
  iintro H
  rw [wp_ret]; imodintro
  iapply Hk
  iexists _
  isplitr
  rotate_left
  · iexact H
  · ipureintro; rw [slot_read M r hr hq, View.read_write_univ]

end Slots

end Cert.Amax

end
-- ==== Proof.Machine.lean ====
/- A device's holdings as a list of atoms, and what each kind of step needs and leaves. A script can then be checked by
   computing with lists; `Steps`' script is checked in `Script`. -/
module

public import proofs.«01_k».proof.Proof.Rules

@[expose] public section

noncomputable section

namespace Cert.Amax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- One thing a device holds. -/
inductive At where
  | tok (k : Chan) | fly (k : Chan) | pos (k : Chan) | sz (k : Chan) | rz (k : Chan) | per (k : Chan)
  | ownR | ownL
  | hR (h : Fin 16) | hL (h : Fin 15) | kR (h : Fin 16) | kL (h : Fin 15)
  | bagR (h : ℕ) | bagL (h : ℕ) | dR (s : Fin 5) | dL (s : Fin 5)
  | ys (r : Fin 31) | am (s : Fin 5) | gy (r : Fin 31) | gd (s : Fin 5)
  | out (n : ℕ)
deriving DecidableEq

/-- The source of a ring transfer, as an atom. -/
def atSrcR : Fin 16 → At
  | ⟨0, _⟩ => .ownR | ⟨n + 1, h⟩ => .hR ⟨n, Nat.lt_of_succ_lt h⟩
def atSrcL : Fin 15 → At
  | ⟨0, _⟩ => .ownL | ⟨n + 1, h⟩ => .hL ⟨n, Nat.lt_of_succ_lt h⟩

/-! ## What a step needs and leaves -/

namespace Step

/-- The atoms a step takes; -/
def pre : Step → List At
  | .sendR h => [.tok (.r h), atSrcR h, .per (.r h), .bagR h.val]
  | .sendL h => [.tok (.l h), atSrcL h, .per (.l h), .bagL h.val]
  | .recvR h => [.pos (.r h)]
  | .recvL h => [.pos (.l h)]
  | .mulR h => [.kR h, .ys (slotR h), .tok (.y (slotR h)), .per (.y (slotR h))]
  | .mulL h => [.kL h, .ys (slotL h), .tok (.y (slotL h)), .per (.y (slotL h))]
  | .drainR h => [.fly (.r h)]
  | .drainL h => [.fly (.l h)]
  | .drainY r => [.fly (.y r)]
  | .red s => [.tok (.d s), .am s, .dR s, .dL s, .pos (.d s)]
  | .outY r => [.pos (.y r), .out r.val]
/-- the atoms it leaves; -/
def post : Step → List At
  | .sendR h => [.fly (.r h)]
  | .sendL h => [.fly (.l h)]
  | .recvR h => .rz (.r h) :: .hR h :: .kR h :: .per (.y (slotR h)) :: .bagR (h.val + 1) :: (rnd h.val).map .dR
  | .recvL h => .rz (.l h) :: .hL h :: .kL h :: .per (.y (slotL h)) :: .bagL (h.val + 1) :: (rnd h.val).map .dL
  | .mulR h => [.kR h, .fly (.y (slotR h))]
  | .mulL h => [.kL h, .fly (.y (slotL h))]
  | .drainR h => [.sz (.r h), atSrcR h]
  | .drainL h => [.sz (.l h), atSrcL h]
  | .drainY r => [.sz (.y r), .ys r]
  | .red s => [.sz (.d s), .rz (.d s), .am s, .gd s]
  | .outY r => [.rz (.y r), .gy r, .out (r.val + 1)]
/-- the landings it pays; -/
def dues : Step → List Due
  | .sendR h => [.ch (.r h)] | .sendL h => [.ch (.l h)]
  | .mulR h => [.ch (.y (slotR h))] | .mulL h => [.ch (.y (slotL h))]
  | .red s => [.ch (.d s)]
  | _ => []
/-- the cells it waits on; -/
def waits : Step → List CK
  | .recvR h => [.rcv (.r h)] | .recvL h => [.rcv (.l h)]
  | .drainR h => [.snd (.r h)] | .drainL h => [.snd (.l h)] | .drainY r => [.snd (.y r)]
  | .red s => [.snd (.d s), .rcv (.d s)]
  | .outY r => [.rcv (.y r)]
  | _ => []
/-- when it may come, in updates of the maximum; -/
def ok (n : ℕ) : Step → Bool
  | .mulR h => n == 2 * h.val | .mulL h => n == 2 * h.val + 1 | .red s => n == 31 + s.val
  | _ => true
/-- how many updates it makes. -/
def adv : Step → ℕ
  | .mulR _ | .mulL _ | .red _ => 1
  | _ => 0

end Step

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The atoms' meaning -/

/-- The rows of the device's own block of the result; -/
abbrev ownRect (c : Dev nD) : Rect S4096x64 := Rect.unit (s := S4096x64) (k0_off1 c) S128x64.size (k0_off1_inb c)
/-- of the block of the device `r + 1` places down. -/
abbrev downRect (c : Dev nD) (r : Fin 31) : Rect S4096x64 :=
  Rect.unit (s := S4096x64) (k0_off2 c (BitVec.ofNat 32 (1 + r.val))) S128x64.size (k0_off2_inb c r)

/-- The result's buffer holds the device's own block and the blocks of the `n` devices below. -/
structure Filled (c : Dev nD) (n : ℕ) (f : Buf (Elt F) (oM.view.loc (c : Thread nD τ))) : Prop where
  own : (oM.access (ownRect c)).read (Elt F) f = k0_pay4 (xb m ρ c) (wt m ρ c)
  down : ∀ r : Fin 31, r.val < n → (oM.access (downRect c r)).read (Elt F) f = k0_pay106 (blk1 m ρ (dn (r.val + 1) c) c)

/-- What an atom stands for on device `c`. -/
def At.I (c : Dev nD) : At → sProp 𝕄
  | .tok k => Amax.tok c k
  | .fly k => Amax.pos c (.snd k)
  | .pos k => Amax.pos c (.rcv k)
  | .sz k => zero c (.snd k)
  | .rz k => zero c (.rcv k)
  | .per k => Amax.per c k
  | .ownR => holds c owM fullShare.left (wt m ρ (dn 0 c))
  | .ownL => holds c owM fullShare.right.left (wt m ρ (up 0 c))
  | .hR h => holds c (wrS h) fullShare.left (wt m ρ (dn (h.val + 1) c))
  | .hL h => holds c (wlS h) fullShare.left (wt m ρ (up (h.val + 1) c))
  | .kR h => holds c (wrS h) fullShare.right (wt m ρ (dn (h.val + 1) c))
  | .kL h => holds c (wlS h) fullShare.right (wt m ρ (up (h.val + 1) c))
  | .bagR h => Amax.bagR (16 - h) h (Amax.up 1 c)
  | .bagL h => Amax.bagL (15 - h) h (Amax.dn 1 c)
  | .dR s => Amax.dR c s
  | .dL s => Amax.dL c s
  | .ys r => anyAt c (ysS r)
  | .am s => anyAt c (asS s)
  | .gy r => anyAt c (yrS r)
  | .gd s => anyAt c (arS s)
  | .out n => iprop(∃ f : Buf (Elt F) (oM.view.loc (c : Thread nD τ)), ⌜Filled m ρ c n f⌝ ∗ (oM.view.loc (c : Thread nD τ) ↦[oM.view.set]{fullShare} f))

theorem I_srcR (c : Dev nD) (h : Fin 16) : (atSrcR h).I m ρ c = holds c (srcM (.r h)) (shr (.r h)) (val m ρ c (.r h)) := by
  obtain ⟨n, hn⟩ := h; cases n <;> rfl
theorem I_srcL (c : Dev nD) (h : Fin 15) : (atSrcL h).I m ρ c = holds c (srcM (.l h)) (shr (.l h)) (val m ρ c (.l h)) := by
  obtain ⟨n, hn⟩ := h; cases n <;> rfl

/-! ## One lemma for each kind of step -/

/-- A value; a program in two parts. -/
theorem wp_done (c : Dev nD) {α : Type} (a : α) {Q : α → sProp 𝕄} : Q a ⊢ WP c (pure a : TP F α) Q := by
  unfold WP
  rw [wp_pure]; iintro H; imodintro; iexact H
theorem wp_seq (c : Dev nD) {α β : Type} (p : TP F α) (k : α → TP F β) {Q : β → sProp 𝕄} :
    WP c p (fun a => WP c (k a) Q) ⊢ WP c (p >>= k) Q := Entails.of_eq (wp_bind _ _ _ p k Q).symm

/-- A step's specification: from its atoms and the landings it pays, with the waits below everything still owed, it
    reaches its atoms left, and the running maximum has advanced. -/
def StepOk (s : Step) : Prop :=
  ∀ (c : Dev nD) (n : ℕ) (l : List Due) (Q : F .f32 → sProp 𝕄), s.ok n = true → (∀ k ∈ s.waits, ∀ x ∈ l, lvl k < lvl (dueCK x)) →
    iprop(env m ρ K ∗ sepL (At.I m ρ c) s.pre ∗ due c (s.dues ++ l))
      ⊢ iprop((sepL (At.I m ρ c) s.post ∗ due c l -∗ Q (acc m ρ (n + s.adv) c)) -∗ WP c (s.prog c (xb m ρ c) (acc m ρ n c)) Q)

omit [FloatOps F] in
theorem extra_r (c : Dev nD) (h : Fin 16) : extra (F := F) (peer (.r h) c) (.r h) = bagR (16 - h.val) h.val (up 1 c) := by
  show bagR _ _ (upDev 0 c) = _; rw [upDev_eq]; rfl
omit [FloatOps F] in
theorem extra_l (c : Dev nD) (h : Fin 15) : extra (F := F) (peer (.l h) c) (.l h) = bagL (15 - h.val) h.val (dn 1 c) := by
  show bagL _ _ (leftDev c) = _; rw [leftDev_eq]

theorem ok_sendR (h : Fin 16) : StepOk m ρ K (.sendR h) := by
  intro c n l Q _ _
  simp only [Step.pre, Step.post, Step.dues, Step.adv, Step.prog, sepL, I_srcR, List.cons_append, List.nil_append, Nat.add_zero]
  simp only [At.I]
  iintro ⟨#HE, ⟨Ht, Hs, Hp, Hb, -⟩, Ho⟩ Hk
  iapply (wp_seq c)
  iapply (wp_ch m ρ K c (.r h) l) $$ [Ht Hs Hp Hb Ho]
  · isplitr; · iexact HE
    isplitl [Ht]; · iexact Ht
    isplitl [Hs]; · iexact Hs
    isplitl [Hp]; · iexact Hp
    isplitl [Hb]
    · rw [extra_r]; iexact Hb
    iexact Ho
  iintro ⟨Hf, Ho⟩
  iapply (wp_done c)
  iapply Hk
  isplitl [Hf]
  · isplitl [Hf]; · iexact Hf
    iempintro
  · iexact Ho

theorem ok_sendL (h : Fin 15) : StepOk m ρ K (.sendL h) := by
  intro c n l Q _ _
  simp only [Step.pre, Step.post, Step.dues, Step.adv, Step.prog, sepL, I_srcL, List.cons_append, List.nil_append, Nat.add_zero]
  simp only [At.I]
  iintro ⟨#HE, ⟨Ht, Hs, Hp, Hb, -⟩, Ho⟩ Hk
  iapply (wp_seq c)
  iapply (wp_ch m ρ K c (.l h) l) $$ [Ht Hs Hp Hb Ho]
  · isplitr; · iexact HE
    isplitl [Ht]; · iexact Ht
    isplitl [Hs]; · iexact Hs
    isplitl [Hp]; · iexact Hp
    isplitl [Hb]
    · rw [extra_l]; iexact Hb
    iexact Ho
  iintro ⟨Hf, Ho⟩
  iapply (wp_done c)
  iapply Hk
  isplitl [Hf]
  · isplitl [Hf]; · iexact Hf
    iempintro
  · iexact Ho

omit [FloatOps F] in
theorem bagR_step (c : Dev nD) (h : Fin 16) :
    bagR (F := F) (16 - h.val) h.val c
      = iprop((per c (.y (slotR h)) ∗ sepL (dR c) (rnd h.val)) ∗ bagR (16 - (h.val + 1)) (h.val + 1) (up 1 c)) := by
  rw [show 16 - h.val = (16 - (h.val + 1)) + 1 by omega]
  show iprop(giftR c h.val ∗ _) = _
  unfold giftR
  rw [show Fin.ofNat 31 (30 - h.val) = slotR h by revert h; decide]
omit [FloatOps F] in
theorem bagL_step (c : Dev nD) (h : Fin 15) :
    bagL (F := F) (15 - h.val) h.val c
      = iprop((per c (.y (slotL h)) ∗ sepL (dL c) (rnd h.val)) ∗ bagL (15 - (h.val + 1)) (h.val + 1) (dn 1 c)) := by
  rw [show 15 - h.val = (15 - (h.val + 1)) + 1 by omega]
  show iprop(giftL c h.val ∗ _) = _
  unfold giftL
  rw [show Fin.ofNat 31 h.val = slotL h by revert h; decide]

/-- What a landing of the right-going ring brings. -/
theorem landed_r (c : Dev nD) (h : Fin 16) :
    got m ρ c (.rcv (.r h)) ⊢ iprop(holds c (wrS h) fullShare.left (wt m ρ (dn (h.val + 1) c)) ∗ holds c (wrS h) fullShare.right (wt m ρ (dn (h.val + 1) c))
      ∗ per c (.y (slotR h)) ∗ sepL (dR c) (rnd h.val) ∗ bagR (16 - (h.val + 1)) (h.val + 1) (up 1 c)) := by
  show iprop(holds c (wrS h) fullShare (wt m ρ (dn h.val (dn 1 c))) ∗ bagR (16 - h.val) h.val c) ⊢ _
  rw [dn_dn, bagR_step]
  iintro ⟨Hv, ⟨Hy, Hd⟩, Hb⟩
  ihave Hv := (holds_split c (wrS h) fullShare (wt m ρ (dn (h.val + 1) c))) $$ Hv
  icases Hv with ⟨H1, H2⟩
  isplitl [H1]; · iexact H1
  isplitl [H2]; · iexact H2
  isplitl [Hy]; · iexact Hy
  isplitl [Hd]; · iexact Hd
  iexact Hb

theorem ok_recvR (h : Fin 16) : StepOk m ρ K (.recvR h) := by
  intro c n l Q _ hw
  simp only [Step.pre, Step.post, Step.dues, Step.adv, Step.prog, sepL, sepL_map, List.nil_append, Nat.add_zero, At.I]
  iintro ⟨#HE, ⟨Hp, -⟩, Ho⟩ Hk
  iapply (wp_seq c)
  iapply (wp_eWait m ρ K c (.rcv (.r h)) l (rvSem h) (srcR h) (wrS h) (wsrcR h) (ww16 h) rfl rfl (hw _ (List.mem_singleton_self _))) $$ [Hp Ho]
  · isplitr; · iexact HE
    isplitl [Hp]; · iexact Hp
    iexact Ho
  iintro ⟨Hg, Hz, Ho⟩
  iapply (wp_done c)
  iapply Hk
  isplitr [Ho]
  rotate_left
  · iexact Ho
  isplitl [Hz]; · iexact Hz
  ihave Hg := (landed_r m ρ c h) $$ Hg
  icases Hg with ⟨H1, H2, Hy, Hd, Hb⟩
  isplitl [H1]; · iexact H1
  isplitl [H2]; · iexact H2
  isplitl [Hy]; · iexact Hy
  isplitl [Hb]; · iexact Hb
  iexact Hd

/-- What a landing of the left-going ring brings. -/
theorem landed_l (c : Dev nD) (h : Fin 15) :
    got m ρ c (.rcv (.l h)) ⊢ iprop(holds c (wlS h) fullShare.left (wt m ρ (up (h.val + 1) c)) ∗ holds c (wlS h) fullShare.right (wt m ρ (up (h.val + 1) c))
      ∗ per c (.y (slotL h)) ∗ sepL (dL c) (rnd h.val) ∗ bagL (15 - (h.val + 1)) (h.val + 1) (dn 1 c)) := by
  show iprop(holds c (wlS h) fullShare (wt m ρ (up h.val (up 1 c))) ∗ bagL (15 - h.val) h.val c) ⊢ _
  rw [up_up, bagL_step]
  iintro ⟨Hv, ⟨Hy, Hd⟩, Hb⟩
  ihave Hv := (holds_split c (wlS h) fullShare (wt m ρ (up (h.val + 1) c))) $$ Hv
  icases Hv with ⟨H1, H2⟩
  isplitl [H1]; · iexact H1
  isplitl [H2]; · iexact H2
  isplitl [Hy]; · iexact Hy
  isplitl [Hd]; · iexact Hd
  iexact Hb

theorem ok_recvL (h : Fin 15) : StepOk m ρ K (.recvL h) := by
  intro c n l Q _ hw
  simp only [Step.pre, Step.post, Step.dues, Step.adv, Step.prog, sepL, sepL_map, List.nil_append, Nat.add_zero, At.I]
  iintro ⟨#HE, ⟨Hp, -⟩, Ho⟩ Hk
  iapply (wp_seq c)
  iapply (wp_eWait m ρ K c (.rcv (.l h)) l (lvSem h) (srcL h) (wlS h) (wsrcL h) (ww15 h) rfl rfl (hw _ (List.mem_singleton_self _))) $$ [Hp Ho]
  · isplitr; · iexact HE
    isplitl [Hp]; · iexact Hp
    iexact Ho
  iintro ⟨Hg, Hz, Ho⟩
  iapply (wp_done c)
  iapply Hk
  isplitr [Ho]
  rotate_left
  · iexact Ho
  isplitl [Hz]; · iexact Hz
  ihave Hg := (landed_l m ρ c h) $$ Hg
  icases Hg with ⟨H1, H2, Hy, Hd, Hb⟩
  isplitl [H1]; · iexact H1
  isplitl [H2]; · iexact H2
  isplitl [Hy]; · iexact Hy
  isplitl [Hb]; · iexact Hb
  iexact Hd

/-- A block product stored and sent: `r` is the place of the device `o` whose columns it used. -/
theorem wp_product (c o : Dev nD) (r : Fin 31) (ho : upDev r c = o) (l : List Due) {α : Type} (a : α) {Q : α → sProp 𝕄} :
    iprop(env m ρ K ∗ anyAt c (ysS r) ∗ tok c (.y r) ∗ per c (.y r) ∗ due c (.ch (.y r) :: l))
      ⊢ iprop((pos c (.snd (.y r)) ∗ due c l -∗ Q a)
        -∗ WP c (eStoreY r (k0_pay7 (xb m ρ c) (wt1 m ρ o)) >>= fun _ => eSendY c r >>= fun _ => pure a) Q) := by
  subst ho
  iintro ⟨#HE, Hs, Ht, Hp, Ho⟩ Hk
  unfold eStoreY
  iapply (wp_seq c)
  iapply (wp_seq c)
  iapply (wp_ld_any ysM (rect32 r) (fun _ => rfl) squeezes_S1x64x128_S64x128 c (View.loadsAt_vmem h_S1x64x128)) $$ Hs
  iintro %v Hs
  iapply (wp_st ysM (rect32 r) (fun _ => rfl) squeezes_S1x64x128_S64x128 c _ (View.stores_vmem_bits_univ h_S1x64x128 rfl) (.inl rfl)) $$ Hs
  iintro Hs
  iapply (wp_seq c)
  iapply (wp_ch m ρ K c (.y r) l) $$ [Ht Hs Hp Ho]
  · isplitr; · iexact HE
    isplitl [Ht]; · iexact Ht
    isplitl [Hs]; · iexact Hs
    isplitl [Hp]; · iexact Hp
    isplitr
    · unfold extra; iempintro
    iexact Ho
  iintro ⟨Hf, Ho⟩
  iapply (wp_done c)
  iapply Hk
  isplitl [Hf]; · iexact Hf
  iexact Ho

theorem ok_mulR (h : Fin 16) : StepOk m ρ K (.mulR h) := by
  intro c n l Q hn _
  obtain rfl : n = 2 * h.val := by simpa [Step.ok] using hn
  simp only [Step.pre, Step.post, Step.dues, Step.adv, Step.prog, sepL, List.cons_append, List.nil_append, At.I]
  have ho : org (2 * h.val) c = dn (h.val + 1) c := by
    unfold org; rw [if_pos (by omega), Nat.mul_div_cancel_left _ (by decide)]
  have hu : upDev (slotR h) c = dn (h.val + 1) c := by
    rw [upDev_eq, dn_eq_up (h.val + 1) (31 - h.val) (by omega)]; congr 1; show 30 - h.val + 1 = 31 - h.val; omega
  have hacc : acc m ρ (2 * h.val + 1) c = k0_pay8 (xb m ρ c) (acc m ρ (2 * h.val) c) (wt1 m ρ (dn (h.val + 1) c)) := by
    rw [← ho]; show (if _ then _ else _) = _; rw [if_pos (by omega)]
  rw [hacc]
  iintro ⟨#HE, ⟨Hv, Hs, Ht, Hp, -⟩, Ho⟩ Hk
  iapply (wp_seq c)
  unfold eLoadR
  iapply (wp_ld wrM (rect16 h) (fun _ => rfl) squeezes_S1x64x4096_S64x4096 c fullShare.right (wt m ρ (dn (h.val + 1) c)) (View.loadsAt_vmem h_S1x64x4096)) $$ Hv
  iintro Hv
  rw [← wt1]
  iapply (wp_product m ρ K c (dn (h.val + 1) c) (slotR h) hu l) $$ [Hs Ht Hp Ho]
  · isplitr; · iexact HE
    isplitl [Hs]; · iexact Hs
    isplitl [Ht]; · iexact Ht
    isplitl [Hp]; · iexact Hp
    iexact Ho
  iintro ⟨Hf, Ho⟩
  iapply Hk
  isplitr [Ho]
  rotate_left
  · iexact Ho
  isplitl [Hv]; · iexact Hv
  isplitl [Hf]; · iexact Hf
  iempintro

theorem ok_mulL (h : Fin 15) : StepOk m ρ K (.mulL h) := by
  intro c n l Q hn _
  obtain rfl : n = 2 * h.val + 1 := by simpa [Step.ok] using hn
  simp only [Step.pre, Step.post, Step.dues, Step.adv, Step.prog, sepL, List.cons_append, List.nil_append, At.I]
  have ho : org (2 * h.val + 1) c = up (h.val + 1) c := by
    unfold org; rw [if_neg (by omega), show (2 * h.val + 1) / 2 = h.val by omega]
  have hu : upDev (slotL h) c = up (h.val + 1) c := by rw [upDev_eq]; rfl
  have hacc : acc m ρ (2 * h.val + 1 + 1) c = k0_pay8 (xb m ρ c) (acc m ρ (2 * h.val + 1) c) (wt1 m ρ (up (h.val + 1) c)) := by
    rw [← ho]; show (if _ then _ else _) = _; rw [if_pos (by omega)]
  rw [hacc]
  iintro ⟨#HE, ⟨Hv, Hs, Ht, Hp, -⟩, Ho⟩ Hk
  iapply (wp_seq c)
  unfold eLoadL
  iapply (wp_ld wlM (rect15 h) (fun _ => rfl) squeezes_S1x64x4096_S64x4096 c fullShare.right (wt m ρ (up (h.val + 1) c)) (View.loadsAt_vmem h_S1x64x4096)) $$ Hv
  iintro Hv
  rw [← wt1]
  iapply (wp_product m ρ K c (up (h.val + 1) c) (slotL h) hu l) $$ [Hs Ht Hp Ho]
  · isplitr; · iexact HE
    isplitl [Hs]; · iexact Hs
    isplitl [Ht]; · iexact Ht
    isplitl [Hp]; · iexact Hp
    iexact Ho
  iintro ⟨Hf, Ho⟩
  iapply Hk
  isplitr [Ho]
  rotate_left
  · iexact Ho
  isplitl [Hv]; · iexact Hv
  isplitl [Hf]; · iexact Hf
  iempintro

/-- A wait for the sending of a channel: the source's share comes back. -/
theorem wp_drain (c : Dev nD) (k : Chan) (l : List Due) (hl : ∀ x ∈ l, lvl (.snd k) < lvl (dueCK x))
    (dst : Memref sig .tc .vmem (csh k) (cel k)) (h1 : dst.view.WordExact) {Q : PUnit → sProp 𝕄} :
    iprop(env m ρ K ∗ pos c (.snd k) ∗ due c l)
      ⊢ iprop((holds c (srcM k) (shr k) (val m ρ c k) ∗ zero c (.snd k) ∗ due c l -∗ Q ⟨⟩)
        -∗ WP c (eWait (sndS k) dst (srcM k) h1 (wsrcM k)) Q) :=
  wp_eWait m ρ K c (.snd k) l (sndS k) dst (srcM k) h1 (wsrcM k) rfl (crd_src k).symm hl

theorem ok_drainR (h : Fin 16) : StepOk m ρ K (.drainR h) := by
  intro c n l Q _ hw
  simp only [Step.pre, Step.post, Step.dues, Step.adv, Step.prog, sepL, I_srcR, List.nil_append, Nat.add_zero]
  simp only [At.I]
  iintro ⟨#HE, ⟨Hp, -⟩, Ho⟩ Hk
  iapply (wp_seq c)
  iapply (wp_drain m ρ K c (.r h) l (hw _ (List.mem_singleton_self _)) (wrS h) (ww16 h)) $$ [Hp Ho]
  · isplitr; · iexact HE
    isplitl [Hp]; · iexact Hp
    iexact Ho
  iintro ⟨Hg, Hz, Ho⟩
  iapply (wp_done c)
  iapply Hk
  isplitr [Ho]
  rotate_left
  · iexact Ho
  isplitl [Hz]; · iexact Hz
  isplitl [Hg]; · iexact Hg
  iempintro

theorem ok_drainL (h : Fin 15) : StepOk m ρ K (.drainL h) := by
  intro c n l Q _ hw
  simp only [Step.pre, Step.post, Step.dues, Step.adv, Step.prog, sepL, I_srcL, List.nil_append, Nat.add_zero]
  simp only [At.I]
  iintro ⟨#HE, ⟨Hp, -⟩, Ho⟩ Hk
  iapply (wp_seq c)
  iapply (wp_drain m ρ K c (.l h) l (hw _ (List.mem_singleton_self _)) (wlS h) (ww15 h)) $$ [Hp Ho]
  · isplitr; · iexact HE
    isplitl [Hp]; · iexact Hp
    iexact Ho
  iintro ⟨Hg, Hz, Ho⟩
  iapply (wp_done c)
  iapply Hk
  isplitr [Ho]
  rotate_left
  · iexact Ho
  isplitl [Hz]; · iexact Hz
  isplitl [Hg]; · iexact Hg
  iempintro

theorem ok_drainY (r : Fin 31) : StepOk m ρ K (.drainY r) := by
  intro c n l Q _ hw
  simp only [Step.pre, Step.post, Step.dues, Step.adv, Step.prog, sepL, At.I, List.nil_append, Nat.add_zero]
  iintro ⟨#HE, ⟨Hp, -⟩, Ho⟩ Hk
  iapply (wp_seq c)
  iapply (wp_drain m ρ K c (.y r) l (hw _ (List.mem_singleton_self _)) (yrS r) (wwyr r)) $$ [Hp Ho]
  · isplitr; · iexact HE
    isplitl [Hp]; · iexact Hp
    iexact Ho
  iintro ⟨Hg, Hz, Ho⟩
  iapply (wp_done c)
  iapply Hk
  isplitr [Ho]
  rotate_left
  · iexact Ho
  isplitl [Hz]; · iexact Hz
  isplitl [Hg]; · iapply (anyAt_of_holds c (ysS r) _); iexact Hg
  iempintro

omit [FloatOps F] in
/-- A round's permission comes with one ring or the other. -/
theorem dR_dL (c : Dev nD) (s : Fin 5) : iprop(dR (F := F) c s ∗ dL c s) ⊢ per c (.d s) := by
  unfold dR dL
  cases below s c
  · rw [if_neg (by decide), if_neg (by decide)]; iintro ⟨-, H⟩; iexact H
  · rw [if_pos rfl, if_pos rfl]; iintro ⟨H, -⟩; iexact H

/-- The first cell of a slot of maxima. -/
abbrev first : S1x8x128.Idx := fun i => ⟨0, by fin_cases i <;> decide⟩
theorem first_emb (s : Fin 5) (j : S1x1x1.Idx) :
    (Rect.unit (s := S5x8x128) ![s.val, 0, 0] S1x1x1.size (inb5' s)).emb j = (rect5 s).emb first := by
  have hj : ∀ i, (j i).val = 0 := fun i => by have := (j i).isLt; fin_cases i <;> exact Nat.lt_one_iff.mp this
  funext i; apply Fin.ext
  show _ + _ * (j i).val = _ + _ * 0
  rw [hj i]; rfl

/-- Reading the first cell of a slot of maxima. -/
theorem wp_ld_cell (c : Dev nD) (s : Fin 5) (a : F .f32) (hl : arM.view.LoadsAt (Rect.unit (s := S5x8x128) ![s.val, 0, 0] S1x1x1.size (inb5' s)).toLoadRect)
    {Q : Vec F S1x1x1 .f32 → sProp 𝕄} :
    holds c (arS s) fullShare (flat squeezes_S1x8x128_S8x128.numel_eq (k0_pay95 a))
      ⊢ iprop((anyAt c (arS s) -∗ Q (cell1 a)) -∗ WP c (Prog.lift (.load arM (Rect.unit (s := S5x8x128) ![s.val, 0, 0] S1x1x1.size (inb5' s)).toLoadRect hl)) Q) := by
  unfold holds anyAt
  iintro ⟨%f, %hf, H⟩ Hk
  simp only [Prog.lift]
  iapply (wp_load_rect 𝒱₀ (c : Thread nD τ) none Set.univ (m := arM) (r := Rect.unit (s := S5x8x128) ![s.val, 0, 0] S1x1x1.size (inb5' s))
    (S := (arS s).view.set) (by
      rw [slot_set arM (rect5 s) (fun _ => rfl) squeezes_S1x8x128_S8x128, View.set_slice, View.set_slice]
      refine Finset.map_subset_map.mpr fun i hi => ?_
      obtain ⟨j, rfl⟩ := LoadRect.exists_idx_of_mem _ hi
      show (Rect.unit (s := S5x8x128) ![s.val, 0, 0] S1x1x1.size (inb5' s)).emb j ∈ _
      rw [first_emb]; exact LoadRect.idx_mem _ _)) $$ H
  iintro H
  rw [wp_ret]; imodintro
  rw [slot_read arM (rect5 s) (fun _ => rfl) squeezes_S1x8x128_S8x128] at hf
  have hr := eq_unflat _ hf
  rw [unflat_flat] at hr
  have : (arM.access (Rect.unit (s := S5x8x128) ![s.val, 0, 0] S1x1x1.size (inb5' s))).read (Elt F) f = cell1 a :=
    funext fun j => (congrArg (arM.view.read (Elt F) f) (first_emb s j)).trans (congrFun hr _)
  rw [this]
  iapply Hk
  iexists f; iexact H

theorem ok_red (s : Fin 5) : StepOk m ρ K (.red s) := by
  intro c n l Q hn hw
  obtain rfl : n = 31 + s.val := by simpa [Step.ok] using hn
  simp only [Step.pre, Step.post, Step.dues, Step.adv, Step.prog, sepL, List.cons_append, List.nil_append, At.I]
  have hacc : acc m ρ (31 + s.val + 1) c = k0_pay96 (acc m ρ (31 + s.val) c) (cell1 (acc m ρ (31 + s.val) (xorDev s c))) := by
    show (if _ then _ else _) = _
    rw [if_neg (by omega), show Fin.ofNat 5 (31 + s.val - 31) = s from Fin.ext (show (31 + s.val - 31) % 5 = s.val by omega)]
  rw [hacc]
  iintro ⟨#HE, ⟨Ht, Hs, H1, H2, Hr, -⟩, Ho⟩ Hk
  iapply (wp_seq c)
  iapply (wp_ld_any asM (rect5 s) (fun _ => rfl) squeezes_S1x8x128_S8x128 c (View.loadsAt_vmem h_S1x8x128)) $$ Hs
  iintro %v Hs
  iapply (wp_seq c)
  iapply (wp_st asM (rect5 s) (fun _ => rfl) squeezes_S1x8x128_S8x128 c _ (View.stores_vmem_bits_univ h_S1x8x128 rfl) (.inl rfl)) $$ Hs
  iintro Hs
  iapply (wp_seq c)
  iapply (wp_ch m ρ K c (.d s) l) $$ [Ht Hs H1 H2 Ho]
  · isplitr; · iexact HE
    isplitl [Ht]; · iexact Ht
    isplitl [Hs]; · iexact Hs
    isplitl [H1 H2]
    · iapply (dR_dL c s); isplitl [H1] <;> iassumption
    isplitr
    · unfold extra; iempintro
    iexact Ho
  iintro ⟨Hf, Ho⟩
  iapply (wp_seq c)
  iapply (wp_eWait m ρ K c (.snd (.d s)) l (dsSem s) (arS s) (asS s) (wwar s) (wwas s) rfl (crd_src (.d s)).symm (hw _ List.mem_cons_self)) $$ [Hf Ho]
  · isplitr; · iexact HE
    isplitl [Hf]; · iexact Hf
    iexact Ho
  iintro ⟨Hs, Hz1, Ho⟩
  iapply (wp_seq c)
  iapply (wp_eWait m ρ K c (.rcv (.d s)) l (dvSem s) (asS s) (arS s) (wwas s) (wwar s) rfl rfl (hw _ (List.mem_cons_of_mem _ List.mem_cons_self))) $$ [Hr Ho]
  · isplitr; · iexact HE
    isplitl [Hr]; · iexact Hr
    iexact Ho
  iintro ⟨Hr, Hz2, Ho⟩
  unfold got pay
  icases Hr with ⟨Hr, -⟩
  iapply (wp_seq c)
  iapply (wp_ld_cell c s (acc m ρ (31 + s.val) (xorDev s c)) (View.loadsAt_vmem h_S1x1x1)) $$ [Hr]
  · iexact Hr
  iintro Hr
  iapply (wp_done c)
  iapply Hk
  isplitr [Ho]
  rotate_left
  · iexact Ho
  isplitl [Hz1]; · iexact Hz1
  isplitl [Hz2]; · iexact Hz2
  isplitl [Hs]; · iapply (anyAt_of_holds c (asS s) _); iexact Hs
  isplitl [Hr]; · iexact Hr
  iempintro

/-- A block of rows of the result keeps what it reads when another is written. -/
theorem block_kept (c : Dev nD) {off off' : Fin 2 → ℕ} (inb : ∀ a, off a + S128x64.size a ≤ S4096x64.size a) (inb' : ∀ a, off' a + S128x64.size a ≤ S4096x64.size a)
    (a b : ℕ) (h : off = ![128 * a, 0]) (h' : off' = ![128 * b, 0]) (hab : a ≠ b) (f : Buf (Elt F) (oM.view.loc (c : Thread nD τ))) (w : (Rect.unit (s := S4096x64) off' S128x64.size inb').shape.Idx → Elt F .f32) :
    (oM.access (Rect.unit (s := S4096x64) off S128x64.size inb)).read (Elt F) ((oM.access (Rect.unit (s := S4096x64) off' S128x64.size inb')).write (Elt F) f w Finset.univ)
      = (oM.access (Rect.unit (s := S4096x64) off S128x64.size inb)).read (Elt F) f := by
  subst h h'
  refine View.read_slice_write_slice_of_disjoint (v := oM.view) _ _ f w Finset.univ ?_
  refine Finset.disjoint_of_subset_right (View.setOn_subset_set _ _) ?_
  rw [View.set_slice, View.set_slice]
  refine (Finset.disjoint_map _).mpr (Rect.unit_disjoint 0 ?_)
  show 128 * a + 128 ≤ 128 * b ∨ 128 * b + 128 ≤ 128 * a
  omega

/-- One more block of the result in place. -/
theorem Filled.next {c : Dev nD} {r : Fin 31} {f : Buf (Elt F) (oM.view.loc (c : Thread nD τ))} (h : Filled m ρ c r.val f) :
    Filled m ρ c (r.val + 1) ((oM.access (downRect c r)).write (Elt F) f (k0_pay106 (blk1 m ρ (dn (r.val + 1) c) c)) Finset.univ) where
  own := by
    have := lt32 c; have := r.isLt
    rw [← h.own]
    exact block_kept c _ _ c.val (((c.val + 31) - r.val) % 32) (k0_off1_eq c) (k0_off2_eq c r) (by omega) f _
  down r' hr' := by
    have := lt32 c; have := r.isLt
    by_cases e : r' = r
    · subst e; exact View.read_write_univ _ _
    · have e' : r'.val ≠ r.val := fun h => e (Fin.ext h)
      rw [← h.down r' (by omega)]
      exact block_kept c _ _ (((c.val + 31) - r'.val) % 32) (((c.val + 31) - r.val) % 32) (k0_off2_eq c r') (k0_off2_eq c r) (by omega) f _

/-- What the landing of a block brings. -/
theorem landed_y (c : Dev nD) (r : Fin 31) : got m ρ c (.rcv (.y r)) ⊢ holds c (yrS r) fullShare (blk m ρ (dn (r.val + 1) c) c) := by
  show iprop(holds c (yrS r) fullShare (blk m ρ (dn (r.val + 1) c) (upDev r (dn (r.val + 1) c))) ∗ emp) ⊢ _
  rw [upDev_eq, up_dn]
  iintro ⟨H, -⟩; iexact H

theorem ok_outY (r : Fin 31) : StepOk m ρ K (.outY r) := by
  intro c n l Q _ hw
  simp only [Step.pre, Step.post, Step.dues, Step.adv, Step.prog, sepL, At.I, List.nil_append, Nat.add_zero]
  iintro ⟨#HE, ⟨Hp, ⟨%f, %hf, H⟩, -⟩, Ho⟩ Hk
  iapply (wp_seq c)
  iapply (wp_eWait m ρ K c (.rcv (.y r)) l (yvSem r) (ysS r) (yrS r) (wwys r) (wwyr r) rfl rfl (hw _ (List.mem_singleton_self _))) $$ [Hp Ho]
  · isplitr; · iexact HE
    isplitl [Hp]; · iexact Hp
    iexact Ho
  iintro ⟨Hr, Hz, Ho⟩
  ihave Hr := (landed_y m ρ c r) $$ Hr
  iapply (wp_seq c)
  iapply (wp_ld yrM (rect32 r) (fun _ => rfl) squeezes_S1x64x128_S64x128 c fullShare (blk m ρ (dn (r.val + 1) c) c) (View.loadsAt_vmem h_S1x64x128)) $$ [Hr]
  · iexact Hr
  iintro Hr
  rw [show unflat squeezes_S1x64x128_S64x128.numel_eq (blk m ρ (dn (r.val + 1) c) c) = blk1 m ρ (dn (r.val + 1) c) c from unflat_flat _ _]
  iapply (wp_seq c)
  unfold eOut
  iapply (wp_seq c)
  simp only [Prog.lift]
  iapply (wp_load_rect 𝒱₀ (c : Thread nD τ) none Set.univ (m := oM) (r := downRect c r) (S := oM.view.set) (View.set_slice_subset _ _)) $$ H
  iintro H
  rw [wp_ret]; imodintro
  iapply (wp_store 𝒱₀ (c : Thread nD τ) none Set.univ (m := oM) (r := downRect c r) (S := oM.view.set) (f := f)
    ((View.setOn_subset_set _ _).trans (View.set_slice_subset _ _))) $$ H
  iintro H
  rw [wp_ret]; imodintro
  iapply (wp_done c)
  iapply Hk
  isplitr [Ho]
  rotate_left
  · iexact Ho
  isplitl [Hz]; · iexact Hz
  isplitl [Hr]; · iapply (anyAt_of_holds c (yrS r) _); iexact Hr
  isplitl [H]
  · iexists _
    isplitr
    rotate_left
    · iexact H
    · ipureintro; exact hf.next m ρ
  iempintro

/-- Every step does. -/
theorem step_ok (s : Step) : StepOk m ρ K s := by
  cases s with
  | sendR h => exact ok_sendR m ρ K h
  | sendL h => exact ok_sendL m ρ K h
  | recvR h => exact ok_recvR m ρ K h
  | recvL h => exact ok_recvL m ρ K h
  | mulR h => exact ok_mulR m ρ K h
  | mulL h => exact ok_mulL m ρ K h
  | drainR h => exact ok_drainR m ρ K h
  | drainL h => exact ok_drainL m ρ K h
  | drainY r => exact ok_drainY m ρ K r
  | red s => exact ok_red m ρ K s
  | outY r => exact ok_outY m ρ K r

end Cert.Amax

end
-- ==== Proof.Script.lean ====
/- Running a script over a device's holdings. Whether a script's steps find what they need is computed with lists of
   atoms; `run_ok` turns the computation into a fact about the program. -/
module

public import proofs.«01_k».proof.Proof.Machine

@[expose] public section

noncomputable section

namespace Cert.Amax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Take the elements `xs` out of `l`. -/
def take {α : Type} [DecidableEq α] : List α → List α → Option (List α)
  | [], l => some l
  | x :: xs, l => if x ∈ l then take xs (l.erase x) else none

theorem take_perm {α : Type} [DecidableEq α] : ∀ {xs l r : List α}, take xs l = some r → l.Perm (xs ++ r)
  | [], l, r, h => by obtain rfl := Option.some.inj h; exact List.Perm.refl _
  | x :: xs, l, r, h => by
    unfold take at h
    by_cases hx : x ∈ l
    · rw [if_pos hx] at h
      exact (List.perm_cons_erase hx).trans ((take_perm h).cons x)
    · rw [if_neg hx] at h; cases h

/-- What a device holds, what it owes, and how often the maximum has been updated. -/
structure St where
  atoms : List At
  owed : List Due
  n : ℕ
deriving DecidableEq

/-- The waits of a step are below everything owed. -/
def clear (ws : List CK) (l : List Due) : Bool := ws.all fun k => l.all fun x => lvl k < lvl (dueCK x)

/-- A step's effect on the state, if it may come. -/
def Step.go (s : Step) (σ : St) : Option St :=
  match take s.pre σ.atoms, take s.dues σ.owed with
  | some a, some l => if s.ok σ.n && clear s.waits l then some ⟨s.post ++ a, l, σ.n + s.adv⟩ else none
  | _, _ => none

/-- A script's effect. -/
def exec : List Step → St → Option St
  | [], σ => some σ
  | s :: ss, σ => (s.go σ).bind (exec ss)

variable {F : FTy → Type} [FloatOps F]

local notation "𝕄" => MT nD τ sig Unit (Elt F) ℕ UU ℕ

omit [FloatOps F] in
theorem due_perm (c : Dev nD) {l l' : List Due} (h : l.Perm l') : due (F := F) c l ⊢ due c l' := by
  unfold due; rw [obl_perm c h]

variable (m : (ℓ : Loc nD τ sig) → Buf (Elt F) ℓ) (ρ : Dev nD → PrngReg) (K : Dev nD × CK → ℕ)

/-- Device `c` is in the state `σ`. -/
def In (c : Dev nD) (σ : St) : sProp 𝕄 := iprop(sepL (At.I m ρ c) σ.atoms ∗ due c σ.owed)

theorem sepL_take (c : Dev nD) (l l' : List At) : sepL (At.I m ρ c) (l ++ l') ⊢ iprop(sepL (At.I m ρ c) l ∗ sepL (At.I m ρ c) l') :=
  Entails.of_eq (sepL_append _ _ _)
theorem sepL_put (c : Dev nD) (l l' : List At) : iprop(sepL (At.I m ρ c) l ∗ sepL (At.I m ρ c) l') ⊢ sepL (At.I m ρ c) (l ++ l') :=
  Entails.of_eq (sepL_append _ _ _).symm

theorem go_ok (c : Dev nD) (s : Step) (σ σ' : St) (h : s.go σ = some σ') (Q : F .f32 → sProp 𝕄) :
    iprop(env m ρ K ∗ In m ρ c σ) ⊢ iprop((In m ρ c σ' -∗ Q (acc m ρ σ'.n c)) -∗ WP c (s.prog c (xb m ρ c) (acc m ρ σ.n c)) Q) := by
  unfold Step.go at h
  split at h
  · rename_i a l ha hl
    split at h
    · rename_i hc
      obtain rfl := Option.some.inj h
      rw [Bool.and_eq_true] at hc
      obtain ⟨hok, hcl⟩ := hc
      have hw : ∀ k ∈ s.waits, ∀ x ∈ l, lvl k < lvl (dueCK x) := fun k hk x hx => by
        have := List.all_eq_true.mp (List.all_eq_true.mp hcl k hk) x hx
        exact of_decide_eq_true this
      unfold In
      iintro ⟨#HE, Ha, Ho⟩ Hk
      ihave Ha := (sepL_perm (At.I m ρ c) (take_perm ha)) $$ Ha
      ihave Ho := (due_perm c (take_perm hl)) $$ Ho
      ihave Ha := (sepL_take m ρ c s.pre a) $$ Ha
      icases Ha with ⟨Hp, Hr⟩
      iapply (step_ok m ρ K s c σ.n l Q hok hw) $$ [Hp Ho]
      · isplitr; · iexact HE
        isplitl [Hp]; · iexact Hp
        iexact Ho
      iintro ⟨Hp, Ho⟩
      iapply Hk
      isplitl [Hp Hr]
      · iapply (sepL_put m ρ c s.post a); isplitl [Hp] <;> iassumption
      · iexact Ho
    · cases h
  · cases h

/-- A script that computes to a state brings the device to it. -/
theorem run_ok (c : Dev nD) : ∀ (ss : List Step) (σ σ' : St) (_ : exec ss σ = some σ') (Q : F .f32 → sProp 𝕄),
    iprop(env m ρ K ∗ In m ρ c σ) ⊢ iprop((In m ρ c σ' -∗ Q (acc m ρ σ'.n c)) -∗ WP c (run c (xb m ρ c) ss (acc m ρ σ.n c)) Q)
  | [], σ, σ', h, Q => by
    obtain rfl := Option.some.inj h
    unfold run
    iintro ⟨#HE, H⟩ Hk
    iapply (wp_done c)
    iapply Hk; iexact H
  | s :: ss, σ, σ', h, Q => by
    obtain ⟨σ₁, h₁, h₂⟩ := Option.bind_eq_some_iff.mp h
    unfold run
    iintro ⟨#HE, H⟩ Hk
    iapply (wp_seq c)
    iapply (go_ok m ρ K c s σ σ₁ h₁ _) $$ [H]
    · isplitr; · iexact HE
      iexact H
    iintro H
    iapply (run_ok c ss σ₁ σ' h₂ Q) $$ [H]
    · isplitr; · iexact HE
      iexact H
    iexact Hk

/-! ## The kernel's script -/

/-- What a device holds after starting the first two ring transfers and storing its own block; -/
def atoms₀ : List At :=
  [.fly (.r 0), .fly (.l 0), .out 0, .dL 4]
    ++ ((List.finRange 16).tail.flatMap fun h => [.tok (.r h), .per (.r h)])
    ++ ((List.finRange 15).tail.flatMap fun h => [.tok (.l h), .per (.l h)])
    ++ (List.finRange 31).map (fun r => .tok (.y r)) ++ (List.finRange 5).map (fun s => .tok (.d s))
    ++ Chan.all.map .pos ++ (List.finRange 31).map .ys ++ (List.finRange 5).map .am
/-- what it owes then; -/
def owed₀ : List Due := ((Chan.all.erase (.r 0)).erase (.l 0)).map .ch ++ [.el, .er]
/-- and what it holds at the end. -/
def atoms₁ : List At :=
  [.ownR, .ownL, .out 31, .bagR 16, .bagL 15] ++ Chan.all.map .sz ++ Chan.all.map .rz
    ++ ((List.finRange 15).flatMap fun h => [.hR h.castSucc, .kR h.castSucc]) ++ [.hR 15, .kR 15]
    ++ ((List.finRange 15).flatMap fun h => [.hL h, .kL h])
    ++ (List.finRange 31).map .ys ++ (List.finRange 5).map .am ++ (List.finRange 31).map .gy ++ (List.finRange 5).map .gd

/-- The end of the script. -/
def script_end : Option (Option (List At) × List Due × ℕ) :=
  (exec script ⟨atoms₀, owed₀, 0⟩).map fun σ => (take atoms₁ σ.atoms, σ.owed, σ.n)

set_option maxRecDepth 100000 in
theorem script_end_eq : script_end = some (some [], [.el, .er], 36) := by decide +kernel

end Cert.Amax

end
-- ==== Proof.Buffers.lean ====
/- Cutting a device's buffers into the slots its channels use, and putting them together again; the permissions a device
   hands round the two rings, made from its own slots. -/
module

public import proofs.«01_k».proof.Proof.Script
public import Idealize.ShloMosaic.Lib.ViewIndex

@[expose] public section

noncomputable section

namespace Cert.Amax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists -/

theorem sepL_flatMap {α β : Type} (Φ : β → sProp 𝕄) (g : α → List β) (l : List α) :
    sepL Φ (l.flatMap g) = sepL (fun x => sepL Φ (g x)) l := by
  induction l with
  | nil => rfl
  | cons x l ih => rw [List.flatMap_cons, sepL_append, ih]; rfl

theorem sepL_join {α : Type} (Φ Ψ : α → sProp 𝕄) (l : List α) : iprop(sepL Φ l ∗ sepL Ψ l) ⊢ sepL (fun x => iprop(Φ x ∗ Ψ x)) l := by
  induction l with
  | nil => exact (BI.emp_sep).1
  | cons x l ih =>
    show iprop((Φ x ∗ sepL Φ l) ∗ (Ψ x ∗ sepL Ψ l)) ⊢ iprop((Φ x ∗ Ψ x) ∗ sepL (fun x => iprop(Φ x ∗ Ψ x)) l)
    iintro ⟨⟨H1, H2⟩, ⟨H3, H4⟩⟩
    isplitl [H1 H3]
    · isplitl [H1] <;> iassumption
    iapply ih; isplitl [H2] <;> iassumption

/-- The conjunction over a finite type is the one over a list of its elements. -/
theorem bigSep_sepL {α : Type} [DecidableEq α] [Fintype α] (l : List α) (h : ∀ x, x ∈ l) (hl : l.Nodup) (Φ : α → sProp 𝕄) :
    bigSep Finset.univ Φ = sepL Φ l := by
  rw [show (Finset.univ : Finset α) = l.toFinset from Finset.ext fun x => by simp [h x]]
  clear h
  induction l with
  | nil => rfl
  | cons x l ih =>
    rw [List.toFinset_cons, bigSep_insert (by simpa using (List.nodup_cons.mp hl).1), ih (List.nodup_cons.mp hl).2]
    rfl

/-! ## Slots of a buffer -/

/-- A part of a buffer is held outright, whatever it contains. -/
def part (ℓ : Loc nD τ sig) (S : Finset (Idx ℓ)) : sProp 𝕄 := iprop(∃ f : Buf (Elt F) ℓ, ℓ ↦[S]{fullShare} f)

/-- What is left of a part when the parts listed are taken out. -/
def left {α : Type} [DecidableEq α] (S : Finset α) : List (Finset α) → Finset α
  | [] => S
  | I :: l => left (S \ I) l

/-- Disjoint parts come out of a buffer; -/
theorem part_cut (ℓ : Loc nD τ sig) : ∀ (l : List (Finset (Idx ℓ))) (S : Finset (Idx ℓ)), (∀ I ∈ l, I ⊆ S) → l.Pairwise Disjoint →
    part (F := F) ℓ S ⊢ iprop(sepL (part ℓ) l ∗ part ℓ (left S l))
  | [], S, _, _ => (BI.emp_sep).2
  | I :: l, S, hs, hd => by
    have hd' := List.pairwise_cons.mp hd
    have ih := part_cut ℓ l (S \ I) (fun J hJ => Finset.subset_sdiff.mpr ⟨hs J (List.mem_cons_of_mem _ hJ), (hd'.1 J hJ).symm⟩) hd'.2
    show part ℓ S ⊢ iprop((part ℓ I ∗ sepL (part ℓ) l) ∗ part ℓ (left (S \ I) l))
    have h1 : part (F := F) ℓ S ⊢ iprop(part ℓ I ∗ part ℓ (S \ I)) := by
      unfold part
      iintro ⟨%f, H⟩
      ihave H := (pointsTo_split_subset (hs I List.mem_cons_self)).1 $$ H
      icases H with ⟨H1, H2⟩
      isplitl [H1] <;> (iexists f; iassumption)
    iintro H
    ihave H := h1 $$ H
    icases H with ⟨H1, H2⟩
    ihave H := ih $$ H2
    icases H with ⟨H2, H3⟩
    isplitr [H3]
    · isplitl [H1] <;> iassumption
    · iexact H3

/-- and go back in. -/
theorem part_mend (ℓ : Loc nD τ sig) : ∀ (l : List (Finset (Idx ℓ))) (S : Finset (Idx ℓ)), (∀ I ∈ l, I ⊆ S) → l.Pairwise Disjoint →
    iprop(sepL (part ℓ) l ∗ part ℓ (left S l)) ⊢ part (F := F) ℓ S
  | [], S, _, _ => (BI.emp_sep).1
  | I :: l, S, hs, hd => by
    have hd' := List.pairwise_cons.mp hd
    have ih := part_mend ℓ l (S \ I) (fun J hJ => Finset.subset_sdiff.mpr ⟨hs J (List.mem_cons_of_mem _ hJ), (hd'.1 J hJ).symm⟩) hd'.2
    show iprop((part ℓ I ∗ sepL (part ℓ) l) ∗ part ℓ (left (S \ I) l)) ⊢ part ℓ S
    have h1 : iprop(part (F := F) ℓ I ∗ part ℓ (S \ I)) ⊢ part ℓ S := by
      unfold part
      iintro ⟨⟨%g, H1⟩, ⟨%f, H2⟩⟩
      iexists (I.piecewise g f)
      iapply (pointsTo_join_subset (hs I List.mem_cons_self)); isplitl [H1] <;> iassumption
    iintro ⟨⟨H1, H2⟩, H3⟩
    iapply h1
    isplitl [H1]; · iexact H1
    iapply ih; isplitl [H2] <;> iassumption

section Cut

variable {s s' : Shape} {e : EltTy} {n : ℕ} (M : Memref sig .tc .vmem s e) (r : Fin n → Rect s) (hr : ∀ h a, (r h).stride a = 1)
  (hq : ∀ h, (r h).shape.Squeezes s') (hd : ∀ h h' : Fin n, h ≠ h' → Disjoint (r h).set (r h').set)

/-- The elements of each slot. -/
def sets : List (Finset M.view.ty.Idx) := (List.finRange n).map fun h => (slot M (r h) (hr h) (hq h)).view.set
/-- What is left of a buffer beside its slots. -/
def spare (c : Dev nD) : sProp 𝕄 := part (M.view.loc (c : Thread nD τ)) (left M.view.set (sets M r hr hq))

theorem sets_sub : ∀ I ∈ sets M r hr hq, I ⊆ M.view.set := fun I hI => by
  obtain ⟨h, -, rfl⟩ := List.mem_map.mp hI
  rw [slot_set]; exact View.set_slice_subset _ _
include hd in
theorem sets_disj : (sets M r hr hq).Pairwise Disjoint :=
  (List.pairwise_map).mpr ((List.nodup_finRange n).imp fun {a b} hab => by
    rw [slot_set, slot_set]; exact View.disjoint_slice (hd _ _ hab))

include hd in
theorem cut (c : Dev nD) :
    anyAt (F := F) c M ⊢ iprop(sepL (fun h => anyAt c (slot M (r h) (hr h) (hq h))) (List.finRange n) ∗ spare M r hr hq c) := by
  have h := part_cut (F := F) (M.view.loc (c : Thread nD τ)) (sets M r hr hq) M.view.set (sets_sub M r hr hq) (sets_disj M r hr hq hd)
  unfold sets at h
  rw [sepL_map] at h
  exact h
include hd in
theorem mend (c : Dev nD) :
    iprop(sepL (fun h => anyAt c (slot M (r h) (hr h) (hq h))) (List.finRange n) ∗ spare M r hr hq c) ⊢ anyAt (F := F) c M := by
  have h := part_mend (F := F) (M.view.loc (c : Thread nD τ)) (sets M r hr hq) M.view.set (sets_sub M r hr hq) (sets_disj M r hr hq hd)
  unfold sets at h
  rw [sepL_map] at h
  exact h

end Cut

theorem disj16 (h h' : Fin 16) (hne : h ≠ h') : Disjoint (rect16 h).set (rect16 h').set :=
  Rect.unit_disjoint 0 (by have : h.val ≠ h'.val := fun e => hne (Fin.ext e); show h.val + 1 ≤ h'.val ∨ h'.val + 1 ≤ h.val; omega)
theorem disj15 (h h' : Fin 15) (hne : h ≠ h') : Disjoint (rect15 h).set (rect15 h').set :=
  Rect.unit_disjoint 0 (by have : h.val ≠ h'.val := fun e => hne (Fin.ext e); show h.val + 1 ≤ h'.val ∨ h'.val + 1 ≤ h.val; omega)
theorem disj32 (h h' : Fin 31) (hne : h ≠ h') : Disjoint (rect32 h).set (rect32 h').set :=
  Rect.unit_disjoint 0 (by have : h.val ≠ h'.val := fun e => hne (Fin.ext e); show h.val + 1 + 1 ≤ h'.val + 1 ∨ h'.val + 1 + 1 ≤ h.val + 1; omega)
theorem disj5 (h h' : Fin 5) (hne : h ≠ h') : Disjoint (rect5 h).set (rect5 h').set :=
  Rect.unit_disjoint 0 (by have : h.val ≠ h'.val := fun e => hne (Fin.ext e); show h.val + 1 ≤ h'.val ∨ h'.val + 1 ≤ h.val; omega)

/-- The slots of each buffer, all of them, and what is beside them. -/
def slotsOf {n : ℕ} {s : Shape} {e : EltTy} (c : Dev nD) (S : Fin n → Memref sig .tc .vmem s e) : sProp 𝕄 :=
  sepL (fun h => anyAt c (S h)) (List.finRange n)
def spares (c : Dev nD) : sProp 𝕄 :=
  iprop(spare wrM rect16 (fun _ _ => rfl) (fun _ => squeezes_S1x64x4096_S64x4096) c
    ∗ spare wlM rect15 (fun _ _ => rfl) (fun _ => squeezes_S1x64x4096_S64x4096) c
    ∗ spare ysM rect32 (fun _ _ => rfl) (fun _ => squeezes_S1x64x128_S64x128) c
    ∗ spare yrM rect32 (fun _ _ => rfl) (fun _ => squeezes_S1x64x128_S64x128) c
    ∗ spare asM rect5 (fun _ _ => rfl) (fun _ => squeezes_S1x8x128_S8x128) c
    ∗ spare arM rect5 (fun _ _ => rfl) (fun _ => squeezes_S1x8x128_S8x128) c)
def allSlots (c : Dev nD) : sProp 𝕄 :=
  iprop(slotsOf c wrS ∗ slotsOf c wlS ∗ slotsOf c ysS ∗ slotsOf c yrS ∗ slotsOf c asS ∗ slotsOf c arS)
/-- The slotted buffers whole. -/
def slotted (c : Dev nD) : sProp 𝕄 :=
  iprop(anyAt c wrM ∗ anyAt c wlM ∗ anyAt c ysM ∗ anyAt c yrM ∗ anyAt c asM ∗ anyAt c arM)

theorem slotted_cut (c : Dev nD) : slotted (F := F) c ⊢ iprop(allSlots c ∗ spares c) := by
  unfold slotted allSlots spares slotsOf
  iintro ⟨H1, H2, H3, H4, H5, H6⟩
  ihave H1 := (cut wrM rect16 (fun _ _ => rfl) (fun _ => squeezes_S1x64x4096_S64x4096) disj16 c) $$ H1
  ihave H2 := (cut wlM rect15 (fun _ _ => rfl) (fun _ => squeezes_S1x64x4096_S64x4096) disj15 c) $$ H2
  ihave H3 := (cut ysM rect32 (fun _ _ => rfl) (fun _ => squeezes_S1x64x128_S64x128) disj32 c) $$ H3
  ihave H4 := (cut yrM rect32 (fun _ _ => rfl) (fun _ => squeezes_S1x64x128_S64x128) disj32 c) $$ H4
  ihave H5 := (cut asM rect5 (fun _ _ => rfl) (fun _ => squeezes_S1x8x128_S8x128) disj5 c) $$ H5
  ihave H6 := (cut arM rect5 (fun _ _ => rfl) (fun _ => squeezes_S1x8x128_S8x128) disj5 c) $$ H6
  icases H1 with ⟨H1, G1⟩
  icases H2 with ⟨H2, G2⟩
  icases H3 with ⟨H3, G3⟩
  icases H4 with ⟨H4, G4⟩
  icases H5 with ⟨H5, G5⟩
  icases H6 with ⟨H6, G6⟩
  isplitl [H1 H2 H3 H4 H5 H6]
  · isplitl [H1]; · iexact H1
    isplitl [H2]; · iexact H2
    isplitl [H3]; · iexact H3
    isplitl [H4]; · iexact H4
    isplitl [H5]; · iexact H5
    iexact H6
  · isplitl [G1]; · iexact G1
    isplitl [G2]; · iexact G2
    isplitl [G3]; · iexact G3
    isplitl [G4]; · iexact G4
    isplitl [G5]; · iexact G5
    iexact G6

theorem slotted_mend (c : Dev nD) : iprop(allSlots c ∗ spares c) ⊢ slotted (F := F) c := by
  unfold slotted allSlots spares slotsOf
  iintro ⟨⟨H1, H2, H3, H4, H5, H6⟩, ⟨G1, G2, G3, G4, G5, G6⟩⟩
  isplitl [H1 G1]
  · iapply (mend wrM rect16 (fun _ _ => rfl) (fun _ => squeezes_S1x64x4096_S64x4096) disj16 c); isplitl [H1] <;> iassumption
  isplitl [H2 G2]
  · iapply (mend wlM rect15 (fun _ _ => rfl) (fun _ => squeezes_S1x64x4096_S64x4096) disj15 c); isplitl [H2] <;> iassumption
  isplitl [H3 G3]
  · iapply (mend ysM rect32 (fun _ _ => rfl) (fun _ => squeezes_S1x64x128_S64x128) disj32 c); isplitl [H3] <;> iassumption
  isplitl [H4 G4]
  · iapply (mend yrM rect32 (fun _ _ => rfl) (fun _ => squeezes_S1x64x128_S64x128) disj32 c); isplitl [H4] <;> iassumption
  isplitl [H5 G5]
  · iapply (mend asM rect5 (fun _ _ => rfl) (fun _ => squeezes_S1x8x128_S8x128) disj5 c); isplitl [H5] <;> iassumption
  · iapply (mend arM rect5 (fun _ _ => rfl) (fun _ => squeezes_S1x8x128_S8x128) disj5 c); isplitl [H6] <;> iassumption

/-! ## The bags -/

/-- The bag of a ring is the gifts of its hops, each to the device it is for. -/
theorem bagR_of (c : Dev nD) : ∀ n h : ℕ, sepL (fun j => giftR (up (j + 1) c) j) (List.range' h n) ⊢ bagR (F := F) n h (up (h + 1) c)
  | 0, h => BI.Entails.refl _
  | n + 1, h => by
    show iprop(giftR (up (h + 1) c) h ∗ sepL (fun j => giftR (up (j + 1) c) j) (List.range' (h + 1) n)) ⊢ iprop(giftR (up (h + 1) c) h ∗ bagR n (h + 1) (up 1 (up (h + 1) c)))
    rw [up_up, show 1 + (h + 1) = h + 1 + 1 by omega]
    exact BI.sep_mono (BI.Entails.refl _) (bagR_of c n (h + 1))
theorem bagL_of (c : Dev nD) : ∀ n h : ℕ, sepL (fun j => giftL (dn (j + 1) c) j) (List.range' h n) ⊢ bagL (F := F) n h (dn (h + 1) c)
  | 0, h => BI.Entails.refl _
  | n + 1, h => by
    show iprop(giftL (dn (h + 1) c) h ∗ sepL (fun j => giftL (dn (j + 1) c) j) (List.range' (h + 1) n)) ⊢ iprop(giftL (dn (h + 1) c) h ∗ bagL n (h + 1) (dn 1 (dn (h + 1) c)))
    rw [dn_dn, show 1 + (h + 1) = h + 1 + 1 by omega]
    exact BI.sep_mono (BI.Entails.refl _) (bagL_of c n (h + 1))

theorem rnd_eq : ∀ j : Fin 16, ∀ s ∈ rnd j.val, 2 ^ s.val = j.val + 1 := by decide
theorem meet : ∀ (s : Fin 5) (c : Dev nD),
    (below s (up (2 ^ s.val) c) = true ∧ xorDev s (up (2 ^ s.val) c) = c ∧ below s (dn (2 ^ s.val) c) = true)
    ∨ (below s (up (2 ^ s.val) c) = false ∧ below s (dn (2 ^ s.val) c) = false ∧ xorDev s (dn (2 ^ s.val) c) = c) := by decide +kernel

/-- A device's slot of round `s` goes to the partner, whichever ring meets it. -/
theorem meets (c : Dev nD) (s : Fin 5) :
    anyAt (F := F) c (arS s) ⊢ iprop(dR (up (2 ^ s.val) c) s ∗ dL (dn (2 ^ s.val) c) s) := by
  unfold dR dL per
  rcases meet s c with ⟨h1, h2, h3⟩ | ⟨h1, h2, h3⟩
  · rw [if_pos h1, if_pos h3]
    show _ ⊢ iprop(anyAt (xorDev s (up (2 ^ s.val) c)) (arS s) ∗ emp)
    rw [h2]; exact (BI.sep_emp).2
  · rw [h1, h2]
    show _ ⊢ iprop(emp ∗ anyAt (xorDev s (dn (2 ^ s.val) c)) (arS s))
    rw [h3]; exact (BI.emp_sep).2

theorem giftR_of (c : Dev nD) (j : Fin 16) :
    iprop(anyAt c (yrS (slotR j)) ∗ sepL (fun s : Fin 5 => dR (up (2 ^ s.val) c) s) (rnd j.val)) ⊢ giftR (F := F) (up (j.val + 1) c) j.val := by
  unfold giftR
  rw [show Fin.ofNat 31 (30 - j.val) = slotR j by revert j; decide]
  refine BI.sep_mono ?_ (sepL_mono fun s hs => ?_)
  · show _ ⊢ anyAt (upDev (slotR j) (up (j.val + 1) c)) (yrS (slotR j))
    rw [upDev_eq, up_up, show (slotR j).val + 1 + (j.val + 1) = 32 by show 30 - j.val + 1 + (j.val + 1) = 32; omega,
      show up 32 c = c from Fin.ext (by have := lt32 c; show (c.val + 32) % 32 = c.val; omega)]
  · rw [rnd_eq j s hs]

theorem giftL_of (c : Dev nD) (j : Fin 15) :
    iprop(anyAt c (yrS (slotL j)) ∗ sepL (fun s : Fin 5 => dL (dn (2 ^ s.val) c) s) (rnd j.val)) ⊢ giftL (F := F) (dn (j.val + 1) c) j.val := by
  unfold giftL
  rw [show Fin.ofNat 31 j.val = slotL j by revert j; decide]
  refine BI.sep_mono ?_ (sepL_mono fun s hs => ?_)
  · show _ ⊢ anyAt (upDev (slotL j) (dn (j.val + 1) c)) (yrS (slotL j))
    rw [upDev_eq, show (slotL j).val + 1 = j.val + 1 from rfl, up_dn]
  · rw [rnd_eq ⟨j.val, by omega⟩ s hs]

theorem slots_perm : (List.finRange 31).Perm ((List.finRange 16).map slotR ++ (List.finRange 15).map slotL) := by decide
theorem rounds_R : (List.finRange 16).flatMap (fun j => rnd j.val) = List.finRange 5 := by decide
theorem rounds_L : List.finRange 5 = (List.finRange 15).flatMap (fun j => rnd j.val) ++ [4] := by decide
theorem range_R : List.range' 0 16 = (List.finRange 16).map fun j => j.val := by decide
theorem range_L : List.range' 0 15 = (List.finRange 15).map fun j => j.val := by decide

/-- A device's own slots for blocks and maxima are the bags it sends off with its operand. -/
theorem bags (c : Dev nD) : iprop(slotsOf c yrS ∗ slotsOf c arS) ⊢ iprop(bagR (F := F) 16 0 (up 1 c) ∗ bagL 15 0 (dn 1 c)) := by
  unfold slotsOf
  iintro ⟨Hy, Ha⟩
  ihave Hy := (sepL_perm (fun h => anyAt (F := F) c (yrS h)) slots_perm) $$ Hy
  ihave Ha := (sepL_mono (l := List.finRange 5) fun s _ => meets (F := F) c s) $$ Ha
  ihave Ha := (sepL_sep (fun s : Fin 5 => dR (F := F) (up (2 ^ s.val) c) s) (fun s : Fin 5 => dL (dn (2 ^ s.val) c) s) (List.finRange 5)) $$ Ha
  icases Ha with ⟨HR, HL⟩
  ihave Hy := (show sepL (fun h => anyAt (F := F) c (yrS h)) ((List.finRange 16).map slotR ++ (List.finRange 15).map slotL)
      ⊢ iprop(sepL (fun j => anyAt c (yrS (slotR j))) (List.finRange 16) ∗ sepL (fun j => anyAt c (yrS (slotL j))) (List.finRange 15)) from
    Entails.of_eq (by rw [sepL_append, sepL_map, sepL_map])) $$ Hy
  icases Hy with ⟨HyR, HyL⟩
  ihave HR := (show sepL (fun s : Fin 5 => dR (F := F) (up (2 ^ s.val) c) s) (List.finRange 5)
      ⊢ sepL (fun j : Fin 16 => sepL (fun s : Fin 5 => dR (F := F) (up (2 ^ s.val) c) s) (rnd j.val)) (List.finRange 16) from
    Entails.of_eq (by rw [← rounds_R, sepL_flatMap])) $$ HR
  ihave HL := (show sepL (fun s : Fin 5 => dL (F := F) (dn (2 ^ s.val) c) s) (List.finRange 5)
      ⊢ iprop(sepL (fun j : Fin 15 => sepL (fun s : Fin 5 => dL (F := F) (dn (2 ^ s.val) c) s) (rnd j.val)) (List.finRange 15) ∗ sepL (fun s : Fin 5 => dL (F := F) (dn (2 ^ s.val) c) s) [4]) from
    Entails.of_eq (by rw [rounds_L, sepL_append, sepL_flatMap])) $$ HL
  icases HL with ⟨HL, -⟩
  isplitl [HyR HR]
  · iapply (bagR_of (F := F) c 16 0)
    rw [range_R, sepL_map]
    iapply (sepL_mono (l := List.finRange 16) fun j _ => giftR_of (F := F) c j)
    iapply (sepL_join (fun j : Fin 16 => anyAt (F := F) c (yrS (slotR j))) _ (List.finRange 16))
    isplitl [HyR] <;> iassumption
  · iapply (bagL_of (F := F) c 15 0)
    rw [range_L, sepL_map]
    iapply (sepL_mono (l := List.finRange 15) fun j _ => giftL_of (F := F) c j)
    iapply (sepL_join (fun j : Fin 15 => anyAt (F := F) c (yrS (slotL j))) _ (List.finRange 15))
    isplitl [HyL] <;> iassumption

end Cert.Amax

end
-- ==== Proof.Filled.lean ====
/- What a device's buffer of the result holds once every block is there. -/
module

public import proofs.«01_k».proof.Proof.Machine
public import Idealize.ShloMosaic.Lib.ViewIndex

@[expose] public section

noncomputable section

namespace Cert.Amax

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- Two indices of a matrix are equal if their coordinates are. -/
theorem ext2 {d : Fin 2 → Nat} {x y : (⟨2, d⟩ : Shape).Idx} (h0 : (x 0).val = (y 0).val) (h1 : (x 1).val = (y 1).val) : x = y :=
  funext fun | ⟨0, _⟩ => Fin.ext h0 | ⟨1, _⟩ => Fin.ext h1

/-- The device whose rows an element of a device's columns of the result is in; -/
def blkOf (i : S4096x64.Idx) : Dev nD := ⟨(i 0).val / 128, by have h : (i 0).val < 4096 := (i 0).isLt; show _ < 32; omega⟩
/-- and its place in that device's block. -/
def posOf (i : S4096x64.Idx) : S128x64.Idx
  | ⟨0, _⟩ => ⟨(i 0).val % 128, Nat.mod_lt _ (by decide)⟩
  | ⟨1, _⟩ => i 1

/-- Device `c`'s columns of the product. -/
def yAll (c : Dev nD) : Vec F S4096x64 .f32 := fun i =>
  if blkOf i = c then k0_pay4 (xb m ρ c) (wt m ρ c) (posOf i) else k0_pay106 (blk1 m ρ (blkOf i) c) (posOf i)

theorem ownRect_emb (c : Dev nD) (i : S4096x64.Idx) (h : blkOf i = c) : (ownRect c).emb (posOf i) = i := by
  have e := k0_off1_eq c
  have h0 : (i 0).val / 128 = c.val := congrArg Fin.val h
  apply ext2
  · show (k0_off1 c) 0 + 1 * ((i 0).val % 128) = (i 0).val
    rw [e]; show 128 * c.val + 1 * ((i 0).val % 128) = (i 0).val; omega
  · show (k0_off1 c) 1 + 1 * (i 1).val = (i 1).val
    rw [e]; show 0 + 1 * (i 1).val = (i 1).val; omega

theorem downRect_emb (c : Dev nD) (r : Fin 31) (i : S4096x64.Idx) (h : blkOf i = dn (r.val + 1) c) : (downRect c r).emb (posOf i) = i := by
  have e := k0_off2_eq c r
  have h0 : (i 0).val / 128 = (c.val + 31 * (r.val + 1)) % 32 := congrArg Fin.val h
  apply ext2
  · show (k0_off2 c (BitVec.ofNat 32 (1 + r.val))) 0 + 1 * ((i 0).val % 128) = (i 0).val
    rw [e]; show 128 * ((c.val + 31 - r.val) % 32) + 1 * ((i 0).val % 128) = (i 0).val
    have := r.isLt; omega
  · show (k0_off2 c (BitVec.ofNat 32 (1 + r.val))) 1 + 1 * (i 1).val = (i 1).val
    rw [e]; show 0 + 1 * (i 1).val = (i 1).val; omega

theorem place (c o : Dev nD) (h : o ≠ c) : ∃ r : Fin 31, o = dn (r.val + 1) c := by
  have h' : o.val ≠ c.val := fun e => h (Fin.ext e)
  have := lt32 o; have := lt32 c
  refine ⟨⟨(c.val + 31 - o.val) % 32, by omega⟩, Fin.ext ?_⟩
  show o.val = (c.val + 31 * ((c.val + 31 - o.val) % 32 + 1)) % 32
  omega

/-- Once the device's own block and the 31 others are in place, the buffer's contents are known. -/
theorem filled_eq (c : Dev nD) (f : Buf (Elt F) (oM.view.loc (c : Thread nD τ))) (h : Filled m ρ c 31 f) : f = yAll m ρ c := by
  funext i
  unfold yAll
  by_cases hb : blkOf i = c
  · rw [if_pos hb, ← h.own]
    show f i = f ((ownRect c).emb (posOf i))
    rw [ownRect_emb c i hb]
  · rw [if_neg hb]
    obtain ⟨r, hr⟩ := place c (blkOf i) hb
    rw [hr, ← h.down r r.isLt]
    show f i = f ((downRect c r).emb (posOf i))
    rw [downRect_emb c r i hr]

/-- The buffer after the rounding to the grid of the maximum. -/
def result (c : Dev nD) : Vec F S4096x64 .f32 :=
  k0_pay1 (k0_pay138 (acc m ρ 36 c)) (k0_pay139 (acc m ρ 36 c) (yAll m ρ c)) (FloatOps.ofBits .f32 0x42FE0000#32) (k0_pay140 (F := F))

end Cert.Amax

end
-- ==== Proof.Body.lean ====
/- The whole body on a device: the handshake and the staging, the first two ring transfers, the device's own block, the
   script, the rounding, the exit handshake; each part a lemma. -/
module

public import proofs.«01_k».proof.Proof.Buffers
public import proofs.«01_k».proof.Proof.Filled

@[expose] public section

noncomputable section

namespace Cert.Amax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Loads and stores of whole buffers -/

section Whole

variable {s : Shape} {e : EltTy} (M : Memref sig .tc .vmem s e) {off : Fin s.rank → ℕ} (hz : off = fun _ => 0)
  (inb : ∀ a, off a + s.size a ≤ s.size a)

include hz in
theorem read_whole_rect (f : M.view.ty.Contents (Elt F)) :
    (M.access (Rect.unit off s.size inb)).read (Elt F) f = M.view.read (Elt F) f := by
  subst hz
  funext x
  show M.view.read (Elt F) f ((Rect.unit (fun _ => 0) s.size inb).emb x) = M.view.read (Elt F) f x
  congr 1
  funext a
  apply Fin.ext
  show 0 + 1 * (x a).val = (x a).val
  omega

include hz in
/-- Reading a whole buffer; -/
theorem wp_ldw (c : Dev nD) (q : PosShare TreeShare) (w : s.Idx → Elt F e) (hl : M.view.LoadsAt (Rect.unit off s.size inb).toLoadRect) {Q : (s.Idx → Elt F e) → sProp 𝕄} :
    holds c M q w ⊢ iprop((holds c M q w -∗ Q w) -∗ WP c (Prog.lift (.load M (Rect.unit off s.size inb).toLoadRect hl)) Q) := by
  unfold holds
  iintro ⟨%f, %hf, H⟩ Hk
  simp only [Prog.lift]
  iapply (wp_load_rect 𝒱₀ (c : Thread nD τ) none Set.univ (m := M) (r := Rect.unit off s.size inb) (S := M.view.set) (View.set_slice_subset _ _)) $$ H
  iintro H
  rw [wp_ret]; imodintro
  have h := read_whole_rect (F := F) M hz inb f
  rw [hf] at h
  subst h
  iapply Hk
  iexists f
  isplitr; · ipureintro; exact hf
  iexact H

/-- whatever it contains; -/
theorem wp_ldw_any (c : Dev nD) (r : Rect s) (hl : M.view.LoadsAt r.toLoadRect) {Q : (r.shape.Idx → Elt F e) → sProp 𝕄} :
    anyAt c M ⊢ iprop((∀ v, anyAt c M -∗ Q v) -∗ WP c (Prog.lift (.load M r.toLoadRect hl)) Q) := by
  unfold anyAt
  iintro ⟨%f, H⟩ Hk
  simp only [Prog.lift]
  iapply (wp_load_rect 𝒱₀ (c : Thread nD τ) none Set.univ (m := M) (r := r) (S := M.view.set) (View.set_slice_subset _ _)) $$ H
  iintro H
  rw [wp_ret]; imodintro
  iapply Hk
  iexists f
  iexact H

include hz in
/-- storing one. -/
theorem wp_stw (c : Dev nD) (v : s.Idx → Elt F e) (hx : (M.access (Rect.unit off s.size inb)).Stores Finset.univ)
    (hm : (Finset.univ : Finset (Rect.unit off s.size inb).shape.Idx) = Finset.univ ∨ ∀ a, (Rect.unit off s.size inb).stride a = 1)
    {Q : PUnit → sProp 𝕄} :
    anyAt c M ⊢ iprop((holds c M fullShare v -∗ Q ⟨⟩) -∗ WP c (Prog.lift (.store M (Rect.unit off s.size inb) v Finset.univ hx hm)) Q) := by
  unfold anyAt holds
  iintro ⟨%f, H⟩ Hk
  simp only [Prog.lift]
  iapply (wp_store 𝒱₀ (c : Thread nD τ) none Set.univ (m := M) (r := Rect.unit off s.size inb) (S := M.view.set) (f := f)
    ((View.setOn_subset_set _ _).trans (View.set_slice_subset _ _))) $$ H
  iintro H
  rw [wp_ret]; imodintro
  iapply Hk
  iexists _
  isplitr
  rotate_left
  · iexact H
  · ipureintro
    rw [← read_whole_rect (F := F) M hz inb, View.read_write_univ]

end Whole

theorem zero2 : (![0, 0] : Fin 2 → ℕ) = fun _ => 0 := by funext a; fin_cases a <;> rfl

variable (m : (ℓ : Loc nD τ sig) → Buf (Elt F) ℓ) (ρ : Dev nD → PrngReg) (K : Dev nD × CK → ℕ)

/-! ## The handshake and the staging -/

/-- What a device still owes once its barrier units are paid. -/
def owedCh : List Due := Chan.all.map .ch ++ [.el, .er]
theorem dues_eq : dues = .bl :: .br :: owedCh := rfl

theorem bar_clear : ∀ x ∈ owedCh, lvl .bar < lvl (dueCK x) := by decide +kernel

/-- What the barrier hands over: the two neighbours' ring slots, to write into. -/
theorem got_bar (c : Dev nD) :
    got m ρ c .bar ⊢ iprop(sepL (fun h => per c (.r h)) (List.finRange 16) ∗ sepL (fun h => per c (.l h)) (List.finRange 15)) := by
  show iprop(sepL (fun h => anyAt (dn 1 c) (wlS h)) (List.finRange 15) ∗ sepL (fun h => anyAt (up 1 c) (wrS h)) (List.finRange 16)) ⊢ _
  have h1 : sepL (fun h => anyAt (F := F) (up 1 c) (wrS h)) (List.finRange 16) ⊢ sepL (fun h => per c (.r h)) (List.finRange 16) :=
    sepL_mono fun h _ => by show _ ⊢ anyAt (upDev 0 c) (wrS h); rw [upDev_eq]; exact BI.Entails.refl _
  have h2 : sepL (fun h => anyAt (F := F) (dn 1 c) (wlS h)) (List.finRange 15) ⊢ sepL (fun h => per c (.l h)) (List.finRange 15) :=
    sepL_mono fun h _ => by show _ ⊢ anyAt (leftDev c) (wlS h); rw [leftDev_eq]
  iintro ⟨HL, HR⟩
  isplitl [HR]
  · iapply h1; iexact HR
  · iapply h2; iexact HL

theorem pay_left (c : Dev nD) : slotsOf c wrS ⊢ pay m ρ (leftDev c) true .bar := by
  show _ ⊢ sepL (fun h => anyAt (up 1 (leftDev c)) (wrS h)) (List.finRange 16)
  rw [leftDev_eq, up_dn]; exact BI.Entails.refl _
theorem pay_right (c : Dev nD) : slotsOf c wlS ⊢ pay m ρ (rightDev c) false .bar := by
  show _ ⊢ sepL (fun h => anyAt (dn 1 (upDev 0 c)) (wlS h)) (List.finRange 15)
  rw [upDev_eq, show (0 : Fin 31).val + 1 = 1 from rfl, dn_up]; exact BI.Entails.refl _

theorem enter_ok (c : Dev nD) (Q : Vec F S128x4096 .bf16 → sProp 𝕄) :
    iprop(env m ρ K ∗ dutyTok ER (cell (leftDev c) .bar) 0 true ∗ dutyTok ER (cell (rightDev c) .bar) 0 false ∗ slotsOf c wrS ∗ slotsOf c wlS
        ∗ pos c .bar ∗ due c dues ∗ anyAt c oxM ∗ anyAt c owM ∗ holds c xM fullShare (xstg m ρ c) ∗ holds c wM fullShare (wstg m ρ c))
      ⊢ iprop((zero c .bar ∗ sepL (fun h => per c (.r h)) (List.finRange 16) ∗ sepL (fun h => per c (.l h)) (List.finRange 15) ∗ due c owedCh
            ∗ anyAt c oxM ∗ holds c owM fullShare (wt m ρ c) ∗ holds c xM fullShare (xstg m ρ c) ∗ holds c wM fullShare (wstg m ρ c)
          -∗ Q (xb m ρ c)) -∗ WP c (enter c) Q) := by
  unfold enter
  iintro ⟨#HE, Ht1, Ht2, HR, HL, Hp, Ho, Hox, How, Hx, Hw⟩ Hk
  iapply (wp_seq c)
  iapply (wp_unit m ρ K c (leftDev c) .bar barSem rfl rfl rfl true .bl (.br :: owedCh) rfl rfl) $$ [Ht1 HR Ho]
  · isplitr; · iexact HE
    isplitl [Ht1]; · iexact Ht1
    isplitl [HR]; · iapply (pay_left m ρ c); iexact HR
    iexact Ho
  iintro Ho
  iapply (wp_seq c)
  iapply (wp_unit m ρ K c (rightDev c) .bar barSem rfl rfl rfl false .br owedCh rfl rfl) $$ [Ht2 HL Ho]
  · isplitr; · iexact HE
    isplitl [Ht2]; · iexact Ht2
    isplitl [HL]; · iapply (pay_right m ρ c); iexact HL
    iexact Ho
  iintro Ho
  iapply (wp_seq c)
  iapply (wp_cell m ρ K c .bar owedCh (.semWait barSem (2#32).toInt.toNat) (fun K' => wpE_semWait_eq 𝒱₀ (c : Thread nD τ) none Set.univ K') bar_clear) $$ [Hp Ho]
  · isplitr; · iexact HE
    isplitl [Hp]; · iexact Hp
    iexact Ho
  iintro ⟨Hg, Hz, Ho⟩
  ihave Hg := (got_bar m ρ c) $$ Hg
  icases Hg with ⟨HR, HL⟩
  iapply (wp_seq c)
  iapply (wp_ldw xM zero2 _ c fullShare (xstg m ρ c) _) $$ Hx
  iintro Hx
  iapply (wp_seq c)
  iapply (wp_ldw_any oxM c _ _) $$ Hox
  iintro %v Hox
  iapply (wp_seq c)
  iapply (wp_stw oxM zero2 _ c (xb m ρ c) _ _) $$ Hox
  iintro Hox
  iapply (wp_seq c)
  iapply (wp_ldw wM zero2 _ c fullShare (wstg m ρ c) _) $$ Hw
  iintro Hw
  iapply (wp_seq c)
  iapply (wp_ldw_any owM c _ _) $$ How
  iintro %v' How
  iapply (wp_seq c)
  iapply (wp_stw owM zero2 _ c (wt m ρ c) _ _) $$ How
  iintro How
  iapply (wp_ldw oxM zero2 _ c fullShare (xb m ρ c) _) $$ Hox
  iintro Hox
  iapply Hk
  isplitl [Hz]; · iexact Hz
  isplitl [HR]; · iexact HR
  isplitl [HL]; · iexact HL
  isplitl [Ho]; · iexact Ho
  isplitl [Hox]; · iapply (anyAt_of_holds c oxM (xb m ρ c)); iexact Hox
  isplitl [How]; · iexact How
  isplitl [Hx]; · iexact Hx
  iexact Hw

/-! ## The device's own block, the rounding, the exit handshake -/

theorem own_ok (c : Dev nD) (Q : F .f32 → sProp 𝕄) :
    iprop(holds c owM fullShare.right.right (wt m ρ c) ∗ anyAt c oM)
      ⊢ iprop((holds c owM fullShare.right.right (wt m ρ c) ∗ (At.out 0).I m ρ c -∗ Q (acc m ρ 0 c)) -∗ WP c (ownBlock c (xb m ρ c)) Q) := by
  have h0 : acc m ρ 0 c = k0_pay5 (xb m ρ c) (wt m ρ c) := rfl
  rw [h0]
  unfold ownBlock
  iintro ⟨How, Ho⟩ Hk
  iapply (wp_seq c)
  iapply (wp_ldw owM zero2 _ c fullShare.right.right (wt m ρ c) _) $$ How
  iintro How
  iapply (wp_seq c)
  iapply (wp_ldw_any oM c _ _) $$ Ho
  iintro %v Ho
  iapply (wp_seq c)
  unfold anyAt
  icases Ho with ⟨%f, Ho⟩
  simp only [Prog.lift]
  iapply (wp_store 𝒱₀ (c : Thread nD τ) none Set.univ (m := oM) (r := ownRect c) (S := oM.view.set) (f := f)
    ((View.setOn_subset_set _ _).trans (View.set_slice_subset _ _))) $$ Ho
  iintro Ho
  rw [wp_ret]; imodintro
  iapply (wp_done c)
  iapply Hk
  isplitl [How]; · iexact How
  simp only [At.I]
  iexists _
  isplitr
  rotate_left
  · iexact Ho
  · ipureintro
    exact ⟨View.read_write_univ _ _, fun r hr => absurd hr (Nat.not_lt_zero _)⟩

theorem finish_ok (c : Dev nD) (Q : PUnit → sProp 𝕄) :
    (At.out 31).I m ρ c ⊢ iprop((holds c oM fullShare (result m ρ c) -∗ Q ⟨⟩) -∗ WP c (finish (acc m ρ 36 c)) Q) := by
  unfold finish
  simp only [At.I]
  iintro ⟨%f, %hf, H⟩ Hk
  obtain rfl := filled_eq m ρ c f hf
  ihave H := (show (oM.view.loc (c : Thread nD τ) ↦[oM.view.set]{fullShare} (yAll m ρ c) : sProp 𝕄) ⊢ holds c oM fullShare (yAll m ρ c) from by
    unfold holds; iintro H; iexists (yAll m ρ c); isplitr; · ipureintro; rfl
    iexact H) $$ H
  iapply (wp_seq c)
  iapply (wp_ldw oM zero2 _ c fullShare (yAll m ρ c) _) $$ H
  iintro H
  iapply (wp_seq c)
  iapply (wp_ldw oM zero2 _ c fullShare (yAll m ρ c) _) $$ H
  iintro H
  ihave H := (anyAt_of_holds c oM (yAll m ρ c)) $$ H
  iapply (wp_stw oM zero2 _ c (result m ρ c) _ _) $$ H
  iintro H
  iapply Hk; iexact H

theorem leave_ok (c : Dev nD) (Q : PUnit → sProp 𝕄) :
    iprop(env m ρ K ∗ dutyTok ER (cell (leftDev c) .ex) 0 true ∗ dutyTok ER (cell (rightDev c) .ex) 0 false ∗ pos c .ex ∗ due c [.el, .er])
      ⊢ iprop((zero c .ex ∗ due c [] -∗ Q ⟨⟩) -∗ WP c (leave c) Q) := by
  unfold leave
  iintro ⟨#HE, Ht1, Ht2, Hp, Ho⟩ Hk
  iapply (wp_seq c)
  iapply (wp_unit m ρ K c (leftDev c) .ex exSem rfl rfl rfl true .el [.er] rfl rfl) $$ [Ht1 Ho]
  · isplitr; · iexact HE
    isplitl [Ht1]; · iexact Ht1
    isplitr; · unfold pay; iempintro
    iexact Ho
  iintro Ho
  iapply (wp_seq c)
  iapply (wp_unit m ρ K c (rightDev c) .ex exSem rfl rfl rfl false .er [] rfl rfl) $$ [Ht2 Ho]
  · isplitr; · iexact HE
    isplitl [Ht2]; · iexact Ht2
    isplitr; · unfold pay; iempintro
    iexact Ho
  iintro Ho
  iapply (wp_cell m ρ K c .ex [] (.semWait exSem (2#32).toInt.toNat) (fun K' => wpE_semWait_eq 𝒱₀ (c : Thread nD τ) none Set.univ K') (fun _ h => absurd h List.not_mem_nil)) $$ [Hp Ho]
  · isplitr; · iexact HE
    isplitl [Hp]; · iexact Hp
    iexact Ho
  iintro ⟨-, Hz, Ho⟩
  iapply Hk
  isplitl [Hz]; · iexact Hz
  iexact Ho

/-! ## The first two ring transfers -/

theorem owedCh_perm : owedCh.Perm (.ch (.r 0) :: .ch (.l 0) :: owed₀) := by decide +kernel

theorem first_ok (c : Dev nD) {α : Type} (p : TP F α) (Q : α → sProp 𝕄) :
    iprop(env m ρ K ∗ tok c (.r 0) ∗ tok c (.l 0) ∗ per c (.r 0) ∗ per c (.l 0) ∗ bagR 16 0 (up 1 c) ∗ bagL 15 0 (dn 1 c) ∗ holds c owM fullShare (wt m ρ c) ∗ due c owedCh)
      ⊢ iprop((pos c (.snd (.r 0)) ∗ pos c (.snd (.l 0)) ∗ holds c owM fullShare.right.right (wt m ρ c) ∗ due c owed₀ -∗ WP c p Q)
        -∗ WP c (eSendR c 0 owM wwo >>= fun _ => eSendL c 0 owM wwo >>= fun _ => p) Q) := by
  iintro ⟨#HE, Ht1, Ht2, Hp1, Hp2, HbR, HbL, How, Ho⟩ Hk
  ihave Ho := (due_perm c owedCh_perm) $$ Ho
  ihave How := (holds_split c owM fullShare (wt m ρ c)) $$ How
  icases How with ⟨How1, How⟩
  ihave How := (holds_split c owM fullShare.right (wt m ρ c)) $$ How
  icases How with ⟨How2, How3⟩
  iapply (wp_seq c)
  iapply (wp_ch m ρ K c (.r 0) (.ch (.l 0) :: owed₀)) $$ [Ht1 Hp1 HbR How1 Ho]
  · isplitr; · iexact HE
    isplitl [Ht1]; · iexact Ht1
    isplitl [How1]
    · iapply (show holds c owM fullShare.left (wt m ρ c) ⊢ holds c (srcM (.r 0)) (shr (.r 0)) (val m ρ c (.r 0)) from by
        show _ ⊢ holds c owM fullShare.left (wt m ρ (dn 0 c)); rw [dn_zero])
      iexact How1
    isplitl [Hp1]; · iexact Hp1
    isplitl [HbR]; · rw [extra_r]; iexact HbR
    iexact Ho
  iintro ⟨Hf1, Ho⟩
  iapply (wp_seq c)
  iapply (wp_ch m ρ K c (.l 0) owed₀) $$ [Ht2 Hp2 HbL How2 Ho]
  · isplitr; · iexact HE
    isplitl [Ht2]; · iexact Ht2
    isplitl [How2]
    · iapply (show holds c owM fullShare.right.left (wt m ρ c) ⊢ holds c (srcM (.l 0)) (shr (.l 0)) (val m ρ c (.l 0)) from by
        show _ ⊢ holds c owM fullShare.right.left (wt m ρ (up 0 c)); rw [up_zero])
      iexact How2
    isplitl [Hp2]; · iexact Hp2
    isplitl [HbL]; · rw [extra_l]; iexact HbL
    iexact Ho
  iintro ⟨Hf2, Ho⟩
  iapply Hk
  isplitl [Hf1]; · iexact Hf1
  isplitl [Hf2]; · iexact Hf2
  isplitl [How3]; · iexact How3
  iexact Ho

/-! ## The script's holdings -/

/-- The channels other than the first of each ring. -/
def restCh : List Chan := (Chan.all.erase (.r 0)).erase (.l 0)
theorem all_perm : Chan.all.Perm (.r 0 :: .l 0 :: restCh) := by decide +kernel

/-- The script's holdings in groups: at its start, -/
def groups₀ : List At :=
  [.fly (.r 0), .fly (.l 0), .out 0, .dL 4] ++ (restCh.map .tok ++ ((List.finRange 16).tail.map (fun h => .per (.r h))
    ++ ((List.finRange 15).tail.map (fun h => .per (.l h)) ++ (Chan.all.map .pos ++ ((List.finRange 31).map .ys ++ (List.finRange 5).map .am)))))
/-- at its end. -/
def groups₁ : List At :=
  [.ownR, .ownL, .out 31] ++ (Chan.all.map .sz ++ (Chan.all.map .rz ++ ((List.finRange 16).flatMap (fun h => [.hR h, .kR h])
    ++ ((List.finRange 15).flatMap (fun h => [.hL h, .kL h]) ++ ((List.finRange 31).map .ys ++ ((List.finRange 31).map .gy
    ++ ((List.finRange 5).map .am ++ ((List.finRange 5).map .gd ++ [.bagR 16, .bagL 15]))))))))

theorem groups₀_perm : groups₀.Perm atoms₀ := by decide +kernel
theorem groups₁_perm : atoms₁.Perm groups₁ := by decide +kernel

theorem below_four : ∀ c : Dev nD, below 4 c = true := by decide +kernel

theorem start_atoms (c : Dev nD) :
    iprop(pos c (.snd (.r 0)) ∗ pos c (.snd (.l 0)) ∗ (At.out 0).I m ρ c ∗ sepL (tok c) restCh ∗ sepL (fun h => per c (.r h)) (List.finRange 16).tail
        ∗ sepL (fun h => per c (.l h)) (List.finRange 15).tail ∗ sepL (fun k => pos c (.rcv k)) Chan.all ∗ slotsOf c ysS ∗ slotsOf c asS)
      ⊢ sepL (At.I m ρ c) atoms₀ := by
  refine BI.Entails.trans ?_ (sepL_perm (At.I m ρ c) groups₀_perm)
  show (_ : sProp 𝕄) ⊢ _
  unfold groups₀ slotsOf
  simp only [sepL_append, sepL_map, sepL, At.I, dL, below_four, if_true]
  iintro ⟨H1, H2, H3, H4, H5, H6, H7, H8, H9⟩
  isplitl [H1 H2 H3]
  · isplitl [H1]; · iexact H1
    isplitl [H2]; · iexact H2
    isplitl [H3]; · iexact H3
    isplitr <;> iempintro
  isplitl [H4]; · iexact H4
  isplitl [H5]; · iexact H5
  isplitl [H6]; · iexact H6
  isplitl [H7]; · iexact H7
  isplitl [H8]; · iexact H8
  iexact H9

theorem own_back (c : Dev nD) :
    iprop(holds c owM fullShare.left (wt m ρ (dn 0 c)) ∗ holds c owM fullShare.right.left (wt m ρ (up 0 c)) ∗ holds c owM fullShare.right.right (wt m ρ c))
      ⊢ anyAt c owM := by
  iintro ⟨H1, H2, H3⟩
  iapply (anyAt_of_holds c owM (wt m ρ (dn 0 c)))
  iapply (holds_join c owM fullShare (wt m ρ (dn 0 c)) (wt m ρ (up 0 c)))
  isplitl [H1]; · iexact H1
  iapply (holds_join c owM fullShare.right (wt m ρ (up 0 c)) (wt m ρ c))
  isplitl [H2] <;> iassumption

theorem back_R (c : Dev nD) : sepL (fun h : Fin 16 => sepL (At.I m ρ c) [.hR h, .kR h]) (List.finRange 16) ⊢ slotsOf c wrS :=
  sepL_mono fun h _ => by
    simp only [sepL, At.I]
    iintro ⟨H1, H2, -⟩
    iapply (anyAt_of_holds c (wrS h) (wt m ρ (dn (h.val + 1) c)))
    iapply (holds_join c (wrS h) fullShare (wt m ρ (dn (h.val + 1) c)) (wt m ρ (dn (h.val + 1) c)))
    isplitl [H1] <;> iassumption
theorem back_L (c : Dev nD) : sepL (fun h : Fin 15 => sepL (At.I m ρ c) [.hL h, .kL h]) (List.finRange 15) ⊢ slotsOf c wlS :=
  sepL_mono fun h _ => by
    simp only [sepL, At.I]
    iintro ⟨H1, H2, -⟩
    iapply (anyAt_of_holds c (wlS h) (wt m ρ (up (h.val + 1) c)))
    iapply (holds_join c (wlS h) fullShare (wt m ρ (up (h.val + 1) c)) (wt m ρ (up (h.val + 1) c)))
    isplitl [H1] <;> iassumption

/-- A device's closed cells of its channels. -/
def zeros (c : Dev nD) : sProp 𝕄 := iprop(sepL (fun k => zero c (.snd k)) Chan.all ∗ sepL (fun k => zero c (.rcv k)) Chan.all)

theorem end_atoms (c : Dev nD) :
    iprop(sepL (At.I m ρ c) atoms₁ ∗ holds c owM fullShare.right.right (wt m ρ c))
      ⊢ iprop(anyAt c owM ∗ allSlots c ∗ (At.out 31).I m ρ c ∗ zeros c) := by
  have h := sepL_perm (At.I m ρ c) groups₁_perm
  unfold groups₁ at h
  rw [sepL_append, sepL_append, sepL_append, sepL_append, sepL_append, sepL_append, sepL_append, sepL_append, sepL_append,
    sepL_flatMap, sepL_flatMap, sepL_map, sepL_map, sepL_map, sepL_map, sepL_map, sepL_map] at h
  unfold zeros allSlots
  iintro ⟨Ha, How⟩
  ihave Ha := h $$ Ha
  icases Ha with ⟨H0, H1, H2, HR, HL, H3, H4, H5, H6, -⟩
  ihave HR := (back_R m ρ c) $$ HR
  ihave HL := (back_L m ρ c) $$ HL
  ihave H0 := (show sepL (At.I m ρ c) [.ownR, .ownL, .out 31]
      ⊢ iprop(holds c owM fullShare.left (wt m ρ (dn 0 c)) ∗ holds c owM fullShare.right.left (wt m ρ (up 0 c)) ∗ (At.out 31).I m ρ c ∗ emp) from BI.Entails.refl _) $$ H0
  icases H0 with ⟨G1, G2, G3, -⟩
  isplitl [G1 G2 How]
  · iapply (own_back m ρ c)
    isplitl [G1]; · iexact G1
    isplitl [G2] <;> iassumption
  isplitl [HR HL H3 H4 H5 H6]
  · isplitl [HR]; · iexact HR
    isplitl [HL]; · iexact HL
    isplitl [H3]; · iapply (show sepL (fun r => (At.ys r).I m ρ c) (List.finRange 31) ⊢ slotsOf c ysS from BI.Entails.refl _); iexact H3
    isplitl [H4]; · iapply (show sepL (fun r => (At.gy r).I m ρ c) (List.finRange 31) ⊢ slotsOf c yrS from BI.Entails.refl _); iexact H4
    isplitl [H5]; · iapply (show sepL (fun r => (At.am r).I m ρ c) (List.finRange 5) ⊢ slotsOf c asS from BI.Entails.refl _); iexact H5
    iapply (show sepL (fun r => (At.gd r).I m ρ c) (List.finRange 5) ⊢ slotsOf c arS from BI.Entails.refl _); iexact H6
  isplitl [G3]; · iexact G3
  isplitl [H1]
  · iapply (show sepL (fun k => (At.sz k).I m ρ c) Chan.all ⊢ sepL (fun k => zero c (.snd k)) Chan.all from BI.Entails.refl _); iexact H1
  · iapply (show sepL (fun k => (At.rz k).I m ρ c) Chan.all ⊢ sepL (fun k => zero c (.rcv k)) Chan.all from BI.Entails.refl _); iexact H2

theorem script_runs : ∃ σ : St, exec script ⟨atoms₀, owed₀, 0⟩ = some σ ∧ σ.atoms.Perm atoms₁ ∧ σ.owed = [.el, .er] ∧ σ.n = 36 := by
  have h := script_end_eq
  unfold script_end at h
  obtain ⟨σ, hσ, h⟩ := Option.map_eq_some_iff.mp h
  obtain ⟨h1, h2⟩ := Prod.mk.inj h
  obtain ⟨h2, h3⟩ := Prod.mk.inj h2
  refine ⟨σ, hσ, ?_, h2, h3⟩
  have := take_perm h1
  rwa [List.append_nil] at this

/-- The script on a device, from its start to its end. -/
theorem script_ok (c : Dev nD) (Q : F .f32 → sProp 𝕄) :
    iprop(env m ρ K ∗ sepL (At.I m ρ c) atoms₀ ∗ due c owed₀)
      ⊢ iprop((sepL (At.I m ρ c) atoms₁ ∗ due c [.el, .er] -∗ Q (acc m ρ 36 c)) -∗ WP c (run c (xb m ρ c) script (acc m ρ 0 c)) Q) := by
  obtain ⟨σ, h, hp, ho, hn⟩ := script_runs
  iintro ⟨#HE, Ha, Ho⟩ Hk
  iapply (run_ok m ρ K c script ⟨atoms₀, owed₀, 0⟩ σ h Q) $$ [Ha Ho]
  · isplitr; · iexact HE
    unfold In
    isplitl [Ha]; · iexact Ha
    iexact Ho
  unfold In
  rw [ho, hn]
  iintro ⟨Ha, Ho⟩
  iapply Hk
  isplitl [Ha]
  · iapply (sepL_perm (At.I m ρ c) hp); iexact Ha
  · iexact Ho

/-! ## The body -/

/-- The tokens of the units a device pays at the handshakes. -/
def units (c : Dev nD) : sProp 𝕄 :=
  iprop(dutyTok ER (cell (leftDev c) .bar) 0 true ∗ dutyTok ER (cell (rightDev c) .bar) 0 false
    ∗ dutyTok ER (cell (leftDev c) .ex) 0 true ∗ dutyTok ER (cell (rightDev c) .ex) 0 false)
/-- What a device brings: the state of its cells and what it may send, -/
def start (c : Dev nD) : sProp 𝕄 :=
  iprop(sepL (tok c) Chan.all ∗ sepL (fun k => pos c (.rcv k)) Chan.all ∗ pos c .bar ∗ pos c .ex ∗ units c)
/-- its scratch buffers, -/
def scratch (c : Dev nD) : sProp 𝕄 := iprop(anyAt c oxM ∗ anyAt c owM ∗ slotted c)
/-- its staged operands. -/
def staged (c : Dev nD) : sProp 𝕄 := iprop(holds c xM fullShare (xstg m ρ c) ∗ holds c wM fullShare (wstg m ρ c))

/-- A device's body: it ends with its columns of the result rounded, every buffer back and every cell closed. -/
theorem body_ok (c : Dev nD) (Q : PUnit → sProp 𝕄) :
    iprop(env m ρ K ∗ start c ∗ scratch c ∗ staged m ρ c ∗ anyAt c oM ∗ due c dues)
      ⊢ iprop((zeros c ∗ zero c .bar ∗ zero c .ex ∗ scratch c ∗ staged m ρ c ∗ holds c oM fullShare (result m ρ c) ∗ due c [] -∗ Q ⟨⟩)
        -∗ WP c (bodyOn c) Q) := by
  unfold start scratch staged units
  iintro ⟨#HE, ⟨Htok, Hpos, Hbar, Hex, Hu1, Hu2, Hu3, Hu4⟩, ⟨Hox, How, Hsl⟩, ⟨Hx, Hw⟩, Hout, Ho⟩ Hk
  ihave Hsl := (slotted_cut (F := F) c) $$ Hsl
  unfold allSlots
  icases Hsl with ⟨⟨HwR, HwL, Hys, Hyr, Has, Har⟩, Hspare⟩
  unfold bodyOn
  iapply (wp_seq c)
  iapply (enter_ok m ρ K c) $$ [Hu1 Hu2 HwR HwL Hbar Ho Hox How Hx Hw]
  · isplitr; · iexact HE
    isplitl [Hu1]; · iexact Hu1
    isplitl [Hu2]; · iexact Hu2
    isplitl [HwR]; · iexact HwR
    isplitl [HwL]; · iexact HwL
    isplitl [Hbar]; · iexact Hbar
    isplitl [Ho]; · iexact Ho
    isplitl [Hox]; · iexact Hox
    isplitl [How]; · iexact How
    isplitl [Hx]; · iexact Hx
    iexact Hw
  iintro ⟨Hz1, HpR, HpL, Ho, Hox, How, Hx, Hw⟩
  ihave Hb := (bags (F := F) c) $$ [Hyr Har]
  · isplitl [Hyr] <;> iassumption
  icases Hb with ⟨HbR, HbL⟩
  ihave Htok := (sepL_perm (tok (F := F) c) all_perm) $$ Htok
  ihave Htok := (show sepL (tok (F := F) c) (.r 0 :: .l 0 :: restCh) ⊢ iprop(tok c (.r 0) ∗ tok c (.l 0) ∗ sepL (tok c) restCh) from BI.Entails.refl _) $$ Htok
  icases Htok with ⟨Ht1, Ht2, Htok⟩
  ihave HpR := (show sepL (fun h => per (F := F) c (.r h)) (List.finRange 16) ⊢ iprop(per c (.r 0) ∗ sepL (fun h => per c (.r h)) (List.finRange 16).tail) from BI.Entails.refl _) $$ HpR
  icases HpR with ⟨Hp1, HpR⟩
  ihave HpL := (show sepL (fun h => per (F := F) c (.l h)) (List.finRange 15) ⊢ iprop(per c (.l 0) ∗ sepL (fun h => per c (.l h)) (List.finRange 15).tail) from BI.Entails.refl _) $$ HpL
  icases HpL with ⟨Hp2, HpL⟩
  iapply (first_ok m ρ K c) $$ [Ht1 Ht2 Hp1 Hp2 HbR HbL How Ho]
  · isplitr; · iexact HE
    isplitl [Ht1]; · iexact Ht1
    isplitl [Ht2]; · iexact Ht2
    isplitl [Hp1]; · iexact Hp1
    isplitl [Hp2]; · iexact Hp2
    isplitl [HbR]; · iexact HbR
    isplitl [HbL]; · iexact HbL
    isplitl [How]; · iexact How
    iexact Ho
  iintro ⟨Hf1, Hf2, How, Ho⟩
  iapply (wp_seq c)
  iapply (own_ok m ρ c) $$ [How Hout]
  · isplitl [How] <;> iassumption
  iintro ⟨How, Hout⟩
  iapply (wp_seq c)
  iapply (script_ok m ρ K c) $$ [Hf1 Hf2 Hout Htok HpR HpL Hpos Hys Has Ho]
  · isplitr; · iexact HE
    isplitr [Ho]
    · iapply (start_atoms m ρ c)
      isplitl [Hf1]; · iexact Hf1
      isplitl [Hf2]; · iexact Hf2
      isplitl [Hout]; · iexact Hout
      isplitl [Htok]; · iexact Htok
      isplitl [HpR]; · iexact HpR
      isplitl [HpL]; · iexact HpL
      isplitl [Hpos]; · iexact Hpos
      isplitl [Hys]; · iexact Hys
      iexact Has
    · iexact Ho
  iintro ⟨Ha, Ho⟩
  ihave H := (end_atoms m ρ c) $$ [Ha How]
  · isplitl [Ha] <;> iassumption
  icases H with ⟨How, Hsl, Hout, Hz⟩
  iapply (wp_seq c)
  iapply (finish_ok m ρ c) $$ Hout
  iintro Hout
  iapply (leave_ok m ρ K c) $$ [Hu3 Hu4 Hex Ho]
  · isplitr; · iexact HE
    isplitl [Hu3]; · iexact Hu3
    isplitl [Hu4]; · iexact Hu4
    isplitl [Hex]; · iexact Hex
    iexact Ho
  iintro ⟨Hz2, Ho⟩
  iapply Hk
  isplitl [Hz]; · iexact Hz
  isplitl [Hz1]; · iexact Hz1
  isplitl [Hz2]; · iexact Hz2
  isplitl [Hox How Hsl Hspare]
  · isplitl [Hox]; · iexact Hox
    isplitl [How]; · iexact How
    iapply (slotted_mend (F := F) c)
    isplitl [Hsl] <;> iassumption
  isplitl [Hx Hw]
  · isplitl [Hx] <;> iassumption
  isplitl [Hout]; · iexact Hout
  iexact Ho

end Cert.Amax

end
-- ==== Proof.Deal.lean ====
/- What the launch gives each device: the tokens of the duties dealt round the mesh to the devices that pay them, each
   device's positions at its own cells, and the credit of what the others owe it. -/
module

public import proofs.«01_k».proof.Proof.Body

@[expose] public section

noncomputable section

namespace Cert.Amax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A family over the cells of a device, one kind after another. -/
theorem bigSep_CK (Φ : CK → sProp 𝕄) :
    bigSep Finset.univ Φ = iprop(Φ .bar ∗ Φ .ex ∗ sepL (fun k => Φ (.snd k)) Chan.all ∗ sepL (fun k => Φ (.rcv k)) Chan.all) := by
  rw [bigSep_sepL CK.all CK.mem_all CK.nodup_all]
  show iprop(Φ .bar ∗ Φ .ex ∗ sepL Φ (Chan.all.map .snd ++ Chan.all.map .rcv)) = _
  rw [sepL_append, sepL_map, sepL_map]

/-! ## Tokens -/

theorem gcell_inj : Function.Injective fun ck : Dev nD × CK => cell ck.1 ck.2 := fun a b h =>
  have := cell_inj h; Prod.ext this.1 this.2
/-- Every cell of the kernel on every device. -/
def meshCells : Finset (GSem nD τ sig) := Finset.univ.map ⟨_, gcell_inj⟩

theorem gtok_inj : Function.Injective fun x : Dev nD × CK × Bool => ((cell x.1 x.2.1, 0, x.2.2) : GSem nD τ sig × ℕ × Bool) := fun a b h => by
  have h1 := cell_inj (congrArg (fun y : GSem nD τ sig × ℕ × Bool => y.1) h)
  have h2 : a.2.2 = b.2.2 := congrArg (fun y : GSem nD τ sig × ℕ × Bool => y.2.2) h
  exact Prod.ext h1.1 (Prod.ext h1.2 h2)
/-- A token for either duty of each of them. -/
def meshToks : Finset (GSem nD τ sig × ℕ × Bool) := Finset.univ.map ⟨_, gtok_inj⟩

/-- The device whose cell a device holds the token of, after the deal: its neighbours' at the handshakes, the receiver's
    receive cell, its own send cell. -/
def dealt : CK × Bool → Dev nD ≃ Dev nD
  | (.bar, true) | (.ex, true) => around (.l 0)
  | (.bar, false) | (.ex, false) => around (.r 0)
  | (.snd _, _) => Equiv.refl _
  | (.rcv k, _) => around k

/-- The deal, as a bijection of all tokens. -/
def deal : Dev nD × CK × Bool ≃ Dev nD × CK × Bool where
  toFun x := (dealt x.2 x.1, x.2)
  invFun x := ((dealt x.2).symm x.1, x.2)
  left_inv x := by simp
  right_inv x := by simp

/-- The tokens of a device's own cells, -/
def ownToks (c : Dev nD) : sProp 𝕄 := bigSep Finset.univ fun x : CK × Bool => dutyTok ER (cell c x.1) 0 x.2
/-- and those it pays with. -/
def payToks (c : Dev nD) : sProp 𝕄 := bigSep Finset.univ fun x : CK × Bool => dutyTok ER (cell (dealt x c) x.1) 0 x.2

theorem deal_toks : bigSep Finset.univ (ownToks (F := F)) = bigSep Finset.univ (payToks (F := F)) := by
  have h1 := bigSep_univ_prod (M := 𝕄) fun x : Dev nD × CK × Bool => dutyTok ER (cell x.1 x.2.1) 0 x.2.2
  have h2 := bigSep_univ_prod (M := 𝕄) fun x : Dev nD × CK × Bool => dutyTok ER (cell (deal x).1 x.2.1) 0 x.2.2
  exact h1.symm.trans ((bigSep_univ_equiv deal _).trans h2)

theorem bigSep_bool (Φ : Bool → sProp 𝕄) : bigSep Finset.univ Φ = iprop(Φ false ∗ Φ true) :=
  bigSep_univ_eq_bigSepL [false, true] (by decide) (by decide) Φ

theorem payToks_eq (c : Dev nD) : payToks (F := F) c
    ⊢ iprop(units c ∗ sepL (fun k => dutyTok ER (cell c (.snd k)) 0 false) Chan.all ∗ sepL (fun k => dutyTok ER (cell (peer k c) (.rcv k)) 0 false) Chan.all) := by
  unfold payToks
  rw [bigSep_univ_prod, bigSep_CK]
  simp only [bigSep_bool]
  unfold units
  iintro ⟨⟨H1, H2⟩, ⟨H3, H4⟩, H5, H6⟩
  ihave H5 := (sepL_sep (F := F) _ _ _) $$ H5
  icases H5 with ⟨H5, -⟩
  ihave H6 := (sepL_sep (F := F) _ _ _) $$ H6
  icases H6 with ⟨H6, -⟩
  isplitl [H1 H2 H3 H4]
  · isplitl [H2]; · iexact H2
    isplitl [H1]; · iexact H1
    isplitl [H4]; · iexact H4
    iexact H3
  isplitl [H5]; · iexact H5
  iexact H6

/-! ## Credit -/

/-- What all devices together owe a cell. -/
theorem owed_sum (c : Dev nD) (k : CK) (l : List Due) :
    ∑ d : Dev nD, obl d l (cell c k) () = l.countP (fun x => dueCK x = k) * amt k := by
  induction l with
  | nil => simp [obl]
  | cons x l ih =>
    have hx : ∀ d : Dev nD, obl d (x :: l) (cell c k) () = obl d l (cell c k) () + if dueDev d x = c ∧ dueCK x = k then amt k else 0 := fun d => by
      show (obl d l + tallyAt (cell (dueDev d x) (dueCK x)) () (amt (dueCK x))) (cell c k) () = _
      rw [Pi.add_apply, Finsupp.add_apply, tallyAt_apply]
      refine congrArg (obl d l (cell c k) () + ·) ?_
      simp only [eq_self_iff_true]
      by_cases h : dueDev d x = c ∧ dueCK x = k
      · have h1 : cell c k = cell (dueDev d x) (dueCK x) := congrArg₂ cell h.1.symm h.2.symm
        have h2 : amt (dueCK x) = amt k := congrArg amt h.2
        exact (if_pos ⟨h1, trivial⟩).trans (h2.trans (if_pos h).symm)
      · have h1 : ¬ (cell c k = cell (dueDev d x) (dueCK x) ∧ True) := fun h' => h ⟨(cell_inj h'.1).1.symm, (cell_inj h'.1).2.symm⟩
        exact (if_neg h1).trans (if_neg h).symm
    rw [Finset.sum_congr rfl fun d _ => hx d, Finset.sum_add_distrib, ih, List.countP_cons]
    obtain ⟨e, he⟩ : ∃ e : Dev nD ≃ Dev nD, ∀ d, e d = dueDev d x := by
      cases x with
      | bl => exact ⟨around (.l 0), fun _ => rfl⟩
      | br => exact ⟨around (.r 0), fun _ => rfl⟩
      | el => exact ⟨around (.l 0), fun _ => rfl⟩
      | er => exact ⟨around (.r 0), fun _ => rfl⟩
      | ch k => exact ⟨around k, fun _ => rfl⟩
    have hs : ∑ d : Dev nD, (if dueDev d x = c ∧ dueCK x = k then amt k else 0) = ∑ d : Dev nD, (if d = c ∧ dueCK x = k then amt k else 0) := by
      rw [← Equiv.sum_comp e fun d => if d = c ∧ dueCK x = k then amt k else 0]
      exact Finset.sum_congr rfl fun d _ => by rw [he]
    rw [hs, Nat.add_mul]
    refine congrArg (List.countP (fun x => decide (dueCK x = k)) l * amt k + ·) ?_
    generalize amt k = a
    by_cases hk : dueCK x = k
    · simp [hk]
    · simp [hk]

theorem owed_cell (c : Dev nD) (k : CK) :
    tallyOn (cell c k) (launchCredit (Pipeline.owing fun d => obl d dues) 0 (cell c k))
      = (tallyAt (cell c k) () (dues.countP (fun x => dueCK x = k) * amt k) : CellTallies nD τ sig Unit) := by
  unfold tallyAt; refine congrArg _ (Finsupp.ext fun u => ?_); cases u
  rw [Pipeline.launchCredit_owing, Finsupp.single_eq_same, owed_sum]

theorem count_rcv : ∀ k : Chan, dues.countP (fun x => dueCK x = .rcv k) = 1 := by decide +kernel

/-- The launch credit of a device: what each of its cells is owed. -/
theorem creds (c : Dev nD) :
    (Pipeline.launchCred (fun d => obl d dues) c : sProp 𝕄)
      ⊢ iprop(cred (tallyAt (cell c .bar) () (tot .bar)) ∗ cred (tallyAt (cell c .ex) () (tot .ex))
        ∗ sepL (fun k => cred (tallyAt (cell c (.rcv k)) () (tot (.rcv k)))) Chan.all) := by
  have h := (bigSep_subset (M := 𝕄) (Finset.subset_univ (Finset.univ.map ⟨csem, csem_inj⟩))
    (Φ := fun sm : SemLoc sig => cred (tallyOn ((c : Thread nD τ), sm) (launchCredit (Pipeline.owing fun d => obl d dues) 0 ((c : Thread nD τ), sm)))))
  rw [bigSep_map] at h
  replace h := h.trans (Entails.of_eq (bigSep_congr (s := Finset.univ) fun k _ => congrArg (cred : _ → sProp 𝕄) (owed_cell c k)))
  rw [bigSep_CK] at h
  unfold Pipeline.launchCred
  refine BI.Entails.trans h ?_
  show (_ : sProp 𝕄) ⊢ _
  iintro ⟨H1, H2, -, H3⟩
  isplitl [H1]; · iexact H1
  isplitl [H2]; · iexact H2
  ihave H3 := (Entails.of_eq (sepL_congr (F := F) fun k _ => show cred (tallyAt (cell c (.rcv k)) () (dues.countP (fun x => dueCK x = .rcv k) * amt (.rcv k))) = cred (tallyAt (cell c (.rcv k)) () (tot (.rcv k))) by
    rw [count_rcv, Nat.one_mul]; rfl)) $$ H3
  iexact H3

/-! ## All of it -/

/-- What stays with a device: its positions, the tokens it pays with. -/
def linear (c : Dev nD) : sProp 𝕄 := iprop((bigSep Finset.univ fun k : CK => atPos ER (cell c k) 0 ∅ 0) ∗ payToks c)

theorem start_of (c : Dev nD) : iprop(linear c ∗ (Pipeline.launchCred (fun d => obl d dues) c : sProp 𝕄)) ⊢ start (F := F) c := by
  unfold linear start
  rw [bigSep_CK]
  iintro ⟨⟨⟨A1, A2, A3, A4⟩, Ht⟩, Hc⟩
  ihave Hc := (creds (F := F) c) $$ Hc
  icases Hc with ⟨C1, C2, C3⟩
  ihave Ht := (payToks_eq (F := F) c) $$ Ht
  icases Ht with ⟨Hu, T1, T2⟩
  isplitl [A3 T1 T2]
  · ihave H := (sepL_join (F := F) _ _ _) $$ [T2 A3]
    · isplitl [T2] <;> iassumption
    ihave H := (sepL_join (F := F) _ _ _) $$ [T1 H]
    · isplitl [T1] <;> iassumption
    iexact H
  isplitl [A4 C3]
  · ihave H := (sepL_join (F := F) _ _ _) $$ [C3 A4]
    · isplitl [C3] <;> iassumption
    iexact H
  unfold pos
  isplitl [C1 A1]
  · isplitl [C1] <;> iassumption
  isplitl [C2 A2]
  · isplitl [C2] <;> iassumption
  iexact Hu

end Cert.Amax

end
-- ==== Proof.BodyEq.lean ====
/- The printed body is the script of steps: by definitional unfolding. -/
module

public import proofs.«01_k».proof.Proof.Steps
public import Idealize.ShloMosaic.Lib.Pipeline.Regions

@[expose] public section

noncomputable section

namespace Cert.Amax

open Idealize.ShloMosaic Idealize.ShloMosaic.TcCoe
open Idealize.SL Idealize.SL.Sem
open Cert.KernelIdeal Cert.KernelIdeal.Gen

variable {F : FTy → Type} [FloatOps F]

set_option maxRecDepth 100000 in
theorem body_eq :
    cc0_body xM (Memref.isWhole_whole _) wM (Memref.isWhole_whole _) oM (Memref.isWhole_whole _)
      oxM (Memref.isWhole_whole _) owM (Memref.isWhole_whole _) wrM (Memref.isWhole_whole _) wlM (Memref.isWhole_whole _)
      ysM (Memref.isWhole_whole _) yrM (Memref.isWhole_whole _) asM (Memref.isWhole_whole _) arM (Memref.isWhole_whole _)
      cc0_scratch8 cc0_scratch9 cc0_scratch10 cc0_scratch11 cc0_scratch12 cc0_scratch13 cc0_scratch14 cc0_scratch15 cc0_scoped0
      = (Prog.lift .deviceId >>= bodyOn (F := F)) := by
  chain_rfl

end Cert.Amax

end
-- ==== Proof.Launch.lean ====
/- The launch: from any memory with the counters at zero every device's kernel runs to its end, the result buffer of each
   device holds its rounded columns, and every counter is zero again. -/
module

public import proofs.«01_k».proof.Proof.Deal
public import proofs.«01_k».proof.Proof.BodyEq
public import proofs.«01_k».proof.Proof.Gen.KernelIdeal.Points
public import Idealize.ShloMosaic.Lib.Pipeline.CollectiveSegs

@[expose] public section

noncomputable section

namespace Cert.Amax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one point of the grid -/

/-- What every device knows and what this one brings, -/
def begun (c : Dev nD) : sProp 𝕄 := iprop((∃ K, env m ρ K) ∗ start c)
/-- with its scratch buffers, before the point; -/
def Φ₀ (c : Dev nD) : sProp 𝕄 := iprop(begun m ρ c ∗ scratch c)
/-- the buffers back and every cell at zero, after it. -/
def Φ₁ (c : Dev nD) : sProp 𝕄 := iprop(scratch (F := F) c ∗ zeros c ∗ zero c .bar ∗ zero c .ex)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => result m ρ c
  Φ t := match t with
    | ⟨0, _⟩ => Φ₀ m ρ c
    | ⟨_ + 1, _⟩ => Φ₁ c
  q _ := fullShare
  owed t := match t with
    | ⟨0, _⟩ => obl c dues
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer of a device at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A whole buffer held is the buffer at its contents. -/
theorem holds_x (c : Dev nD) (X : (cc0_stg0_0 : Ref sig .tc).ty.Contents (Elt F)) : holds (F := F) c xM fullShare X = stg c cc0_stg0_0 X :=
  owns_whole_eq c cc0_stg0_0 X
theorem holds_w (c : Dev nD) (X : (cc0_stg1_0 : Ref sig .tc).ty.Contents (Elt F)) : holds (F := F) c wM fullShare X = stg c cc0_stg1_0 X :=
  owns_whole_eq c cc0_stg1_0 X
theorem holds_o (c : Dev nD) (X : (cc0_stg2_0 : Ref sig .tc).ty.Contents (Elt F)) : holds (F := F) c oM fullShare X = stg c cc0_stg2_0 X :=
  owns_whole_eq c cc0_stg2_0 X

/-- The scratch buffers as the launch lists them. -/
theorem scratch_eq (c : Dev nD) : (Pipeline.scopedRest (Ix := Unit) (Name := ℕ) (U := UU) (Lvl := ℕ) (Val := Elt F) spec0 c : sProp 𝕄) = scratch c := by
  rw [scopedRest0_eq]
  unfold scratch slotted anyAt
  simp only [Memref.view_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ
    ∗ stg c cc0_stg0_0 (xstg m ρ c) ∗ stg c cc0_stg1_0 (wstg m ρ c) ∗ stg c cc0_stg2_0 (result m ρ c))

theorem wp_dev (c : Dev nD) {α : Type} (p : Dev nD → TP F α) (Q : α → sProp 𝕄) : WP c (p c) Q ⊢ WP c (Prog.lift .deviceId >>= p) Q := by
  unfold WP
  simp only [Prog.lift, Prog.bind_op, Prog.bind_ret, wp_deviceId]
  exact BI.Entails.refl _

/-- The body at the point. -/
theorem body_point (c : Dev nD) :
    bodyPre m ρ c ⊢ WP c (Prog.lift .deviceId >>= bodyOn (F := F)) (fun _ => bodyPost m ρ c) := by
  refine BI.Entails.trans ?_ (wp_dev c bodyOn _)
  unfold bodyPre Φ₀ begun Dat.owesAt Pipeline.owesWithin
  rw [show (dats m ρ 0 c).owed t0_0.castSucc = obl c dues from rfl]
  show (_ : sProp 𝕄) ⊢ _
  iintro ⟨⟨⟨⟨%K, #HE⟩, Hst⟩, Hscr⟩, ⟨%W, %hW, HO⟩, ⟨%d0, %g0, %hg0, Hx⟩, ⟨%d1, %g1, %hg1, Hw⟩, ⟨%d2, %g2, -, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  iapply (body_ok m ρ K c) $$ [Hst Hscr HO Hx Hw Hout]
  · isplitr; · iexact HE
    isplitl [Hst]; · iexact Hst
    isplitl [Hscr]; · iexact Hscr
    isplitl [Hx Hw]
    · unfold staged
      rw [holds_x, holds_w]
      isplitl [Hx]
      · iexists g0; isplitr; · ipureintro; exact hx
        iexact Hx
      · iexists g1; isplitr; · ipureintro; exact hw
        iexact Hw
    isplitl [Hout]
    · iapply (anyAt_of_holds c oM (g2 : (cc0_stg2_0 : Ref sig .tc).ty.Contents (Elt F)))
      rw [holds_o]
      iexists g2; isplitr; · ipureintro; rfl
      iexact Hout
    · unfold due; iexists W; iexact HO
  unfold staged due
  rw [holds_x, holds_w, holds_o]
  iintro ⟨Hz, Hzb, Hze, Hscr, ⟨Hx, Hw⟩, Hout, ⟨%W', HO⟩⟩
  unfold bodyPost Φ₁ Dat.owesAt Pipeline.owesWithin
  rw [show (dats m ρ 0 c).owed t0_0.succ = obl c [] from rfl]
  isplitl [Hz Hzb Hze Hscr]
  · isplitl [Hscr]; · iexact Hscr
    isplitl [Hz]; · iexact Hz
    isplitl [Hzb] <;> iassumption
  isplitl [HO]
  · iexists W'; isplitr
    · ipureintro; exact fun _ _ => Or.inl trivial
    iexact HO
  isplitl [Hx]; · iexact Hx
  isplitl [Hw]; · iexact Hw
  iexact Hout

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have h := body_point m ρ c
  rw [← body_eq] at h
  exact h

/-! ## The semaphores -/

/-- The kernel's own semaphores: every cell but the barrier's. -/
abbrev OwnCK : Type := {k : CK // k ≠ .bar}
def osem (k : OwnCK) : SemLoc sig := csem k.1

theorem own_scoped : ∀ k : CK, k ≠ .bar → (csem k).isScoped .tc = true := by decide +kernel
theorem own_unstaged : ∀ (k : CK) (w : Fin 3) (s : Fin (spec0 w).nbuf), csem k ≠ .dma ((spec0 w).sem s) := by decide +kernel
theorem ownSemFacts : Pipeline.OwnSemFacts cfg0.spec osem :=
  ⟨fun k => own_scoped k.1 k.2, fun a b h => Subtype.ext (csem_inj h), fun k w s => own_unstaged k.1 w s⟩

theorem share_eq (c : Dev nD) (w : Fin cfg0.W) : (dats m ρ 0 c).share w = fullShare := by unfold Dat.share; split <;> rfl

/-- The barrier semaphore is the one that outlives the kernel; -/
theorem unscopedSems0_eq (c : Dev nD) : (unscopedSems0 c : sProp 𝕄) = zero c .bar := by
  unfold unscopedSems0; rw [bigSep_eq_bigSepL_of_eq [SemLoc.reg barSem] (by decide +kernel) (by decide)]; rfl
/-- with the kernel's own it makes up every cell. -/
theorem sems_eq (c : Dev nD) :
    iprop(Pipeline.ownSems0 (Ix := Unit) (Name := ℕ) (U := UU) (Lvl := ℕ) (Val := Elt F) (τ := τ) osem c ∗ unscopedSems0 c)
      = bigSep Finset.univ fun k : CK => (zero c k : sProp 𝕄) := by
  rw [unscopedSems0_eq, bigSep_univ_at (fun k : CK => (zero c k : sProp 𝕄)) .bar,
    show Pipeline.ownSems0 (Ix := Unit) (Name := ℕ) (U := UU) (Lvl := ℕ) (Val := Elt F) (τ := τ) osem c
      = bigSep (Finset.univ.erase CK.bar) fun k : CK => (zero c k : sProp 𝕄) from bigSep_subtype_ne CK.bar fun k : CK => (zero c k : sProp 𝕄)]
  exact equiv_iff.mp ⟨BI.sep_comm, BI.sep_comm⟩

/-! ## The ghost state -/

def u₀ : UU :=
  (initOf (Pipeline.cells cfgs cellOf_inj) (Pipeline.launchToks cfgs cellOf_inj), initOf meshCells meshToks)

/-- What the launch element gives device `c`; -/
def G (c : Dev nD) : sProp 𝕄 :=
  iprop((bigSep Finset.univ fun k : CK => roundState ER (sched m ρ) (cell c k) 0)
    ∗ (bigSep Finset.univ fun k : CK => atPos ER (cell c k) 0 ∅ 0) ∗ (bigSep Finset.univ fun k : CK => reached ER (cell c k) 0) ∗ ownToks c)
/-- what the devices together make of it. -/
def G' (c : Dev nD) : sProp 𝕄 := iprop((∃ K, records m ρ K) ∗ linear c)

theorem fund_mesh : BI.own (ER (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : CK => Φ (cell c k) := by
    unfold meshCells; rw [bigSep_map, bigSep_univ_prod]; rfl
  have hT : bigSep meshToks (fun x => (dutyTok ER x.1 x.2.1 x.2.2 : sProp 𝕄)) = bigSep Finset.univ fun c : Dev nD => ownToks c := by
    unfold meshToks; rw [bigSep_map, bigSep_univ_prod]; rfl
  iintro HX
  imod (Rounds.fund ER (sched m ρ) meshCells meshToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- A device's cells open: an invariant for each. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (cell c k)))
          ∗ (bigSep Finset.univ fun k : CK => atPos ER (cell c k) 0 ∅ 0) ∗ (bigSep Finset.univ fun k : CK => reached ER (cell c k) 0) ∗ ownToks c) := by
  have hinv : iprop((bigSep Finset.univ fun k : CK => (zero c k : sProp 𝕄)) ∗ bigSep Finset.univ fun k : CK => roundState ER (sched m ρ) (cell c k) 0)
      ⊢ |={Set.univ}=> bigSep Finset.univ fun k => iprop(∃ κ : ℕ, cellInv ER (sched m ρ) κ (cell c k)) := by
    rw [← bigSep_sep']
    exact (bigSep_mono fun k _ => (Rounds.body_intro ER (sched m ρ) (cell c k)).trans inv_alloc).trans (bigSep_fupd _ _)
  unfold G
  iintro ⟨Hos, Hus, Hst, Hat, Hr, Htok⟩
  ihave Hv := (Entails.of_eq (sems_eq (F := F) c)) $$ [Hos Hus]
  · isplitl [Hos] <;> iassumption
  imod hinv $$ [Hv Hst] with Hinv
  · isplitl [Hv] <;> iassumption
  imodintro
  isplitl [Hinv]; · iexact Hinv
  isplitl [Hat]; · iexact Hat
  isplitl [Hr]; · iexact Hr
  iexact Htok

/-- What every device may use beside its own part. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (cell c k)))
          ∗ (bigSep Finset.univ fun k : CK => atPos ER (cell c k) 0 ∅ 0) ∗ (bigSep Finset.univ fun k : CK => reached ER (cell c k) 0) ∗ ownToks c) : sProp 𝕄)
      ⊢ bigSep Finset.univ (G' m ρ) := by
  rw [bigSep_sep', bigSep_sep', bigSep_sep', ← bigSep_univ_prod (fun ck : Dev nD × CK => iprop(∃ κ : ℕ, cellInv ER (sched m ρ) κ (cell ck.1 ck.2))),
    ← bigSep_univ_prod (fun ck : Dev nD × CK => (reached ER (cell ck.1 ck.2) 0 : sProp 𝕄)),
    show (bigSep Finset.univ fun c : Dev nD => (ownToks c : sProp 𝕄)) = bigSep Finset.univ fun c : Dev nD => payToks c from deal_toks]
  iintro ⟨HI, Hat, #HR, Htok⟩
  ihave HK := (BI.bigSep_exists_pi Finset.univ (fun (ck : Dev nD × CK) (κ : ℕ) => (cellInv ER (sched m ρ) κ (cell ck.1 ck.2) : sProp 𝕄))) $$ HI
  icases HK with ⟨%K, #HI⟩
  iapply (with_persistent (R := records m ρ K) (Φ := fun c => linear c) fun c _ => by
    unfold G'
    iintro ⟨#H, Hl⟩
    isplitr; · iexists K; iexact H
    iexact Hl)
  isplitr
  · unfold records; isplitr; · iexact HI
    iexact HR
  · unfold linear
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The side conditions -/

theorem begun_intro (c : Dev nD) :
    iprop(Pipeline.unscopedRestP Pipeline.Prefetch.none cfg0.spec c (fun b => m ((c : Thread nD τ).loc b)) ∗ levAts L lv
        ∗ Pipeline.launchCred (fun d => obl d dues) c ∗ prngReg c (ρ c) ∗ G' m ρ c)
      ⊢ |={Set.univ}=> iprop(begun m ρ c ∗ emp) := by
  unfold G' begun
  iintro ⟨-, Hlev, Hcr, -, ⟨%K, HR⟩, Hl⟩
  imodintro
  isplitl
  · isplitl [HR Hlev]
    · iexists K; unfold env; isplitl [HR] <;> iassumption
    · iapply (start_of (F := F) c); isplitl [Hl] <;> iassumption
  · iempintro

theorem phi0_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show Pipeline.scopedRest cfg0.spec c = scratch (F := F) c from scratch_eq c]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show Pipeline.scopedRest cfg0.spec c = scratch (F := F) c from scratch_eq c]
  have h : iprop(zeros c ∗ zero c .bar ∗ zero c .ex) ⊢ iprop(Pipeline.ownSems0 (Ix := Unit) (Name := ℕ) (U := UU) (Lvl := ℕ) (Val := Elt F) (τ := τ) osem c ∗ unscopedSems0 c) := by
    rw [sems_eq, bigSep_CK]
    unfold zeros
    iintro ⟨⟨H1, H2⟩, H3, H4⟩
    isplitl [H3]; · iexact H3
    isplitl [H4]; · iexact H4
    isplitl [H1] <;> iassumption
  unfold Φ₁
  iintro ⟨Hr, Hz⟩
  ihave Hz := h $$ Hz
  icases Hz with ⟨Ho, Hu⟩
  isplitl [Hu]; · iexact Hu
  isplitl [Ho] <;> iassumption

/-- The staging's semaphores are below all that is owed. -/
theorem staging_low : ∀ (w : Fin 3) (s : Fin (spec0 w).nbuf), decode (.dma ((spec0 w).sem s)) = none := by decide +kernel
theorem dues_high : ∀ x ∈ dues, 0 < lvl (dueCK x) := by decide +kernel

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((spec0 w).sem s)) () = 0 := by unfold lv; rw [staging_low w s]
    rcases t with ⟨_ | _, ht⟩
    · exact mayWait_sem c _ dues fun x hx => by rw [h0]; exact dues_high x hx
    · exact mayWait_sem c _ [] fun x hx => absurd hx List.not_mem_nil

/-! ## The run -/

/-- The contents of a window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- At the compiled mesh of 32 devices, for any float values and from any memory with the counters at zero: every weakly
    fair execution ends, each device's arrays hold the computed contents, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => obl d dues) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := begun m ρ) (Y := fun c => unscopedSems0 c) (Z := fun _ => iprop(emp))
    (hX := begun_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

set_option maxRecDepth 100000 in
/-- An operand's array holds what it held. -/
theorem finalA_0 (c : Dev nD) : finalA m ρ c (0 : Fin 3) = m ((c : Thread nD τ).loc main_arg0) :=
  (dats (F := F) m ρ 0 c).arrAt_in (0 : Fin 3) rfl _
set_option maxRecDepth 100000 in
theorem finalA_1 (c : Dev nD) : finalA m ρ c (1 : Fin 3) = m ((c : Thread nD τ).loc main_arg1) :=
  (dats (F := F) m ρ 0 c).arrAt_in (1 : Fin 3) rfl _

end Cert.Amax

end
-- ==== Proof.Frames.lean ====
/- The frames: the kernel at either reading of the floats, and the reference. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Amax

open Idealize.ShloMosaic Idealize.SL.Sem

/-- The kernel runs on 32 devices, keeps its operands and ends with every counter at zero, whatever the floats are. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c (0 : Fin 3)).trans (finalA_0 m ρ c), (h.1 c (1 : Fin 3)).trans (finalA_1 m ρ c)⟩, h.2⟩)
    (run_main m ρ)

set_option maxRecDepth 100000 in
/-- The two programs have one text: their bodies are equal, -/
theorem defs₀_eq : (@Cert.Kernel.defs₀ Bits _ _ : Defs Cert.KernelIdeal.nD Cert.KernelIdeal.τ Cert.KernelIdeal.sig (Elt Bits) Cert.KernelIdeal.Λ₀)
    = @Cert.KernelIdeal.defs₀ Bits _ _ := by
  unfold Cert.Kernel.defs₀ Cert.KernelIdeal.defs₀
  refine congrArg Defs.onTc ?_
  funext l x
  obtain ⟨l, hl⟩ := l
  cases l with
  | zero => rfl
  | succ n => exact absurd hl (by omega)
/-- and so are their definitions. -/
theorem defs_eq : (@Cert.Kernel.defs Bits _ _ : Defs Cert.KernelIdeal.nD Cert.KernelIdeal.τ Cert.KernelIdeal.sig (Elt Bits)
    (Pipeline.Sig Cert.KernelIdeal.Λ₀ (Fin 1) fun p => (Cert.KernelIdeal.pcfgs (F := Bits) p).Adm)) = @Cert.KernelIdeal.defs Bits _ _ := by
  unfold Cert.Kernel.defs Cert.KernelIdeal.defs
  exact congrArg (Pipeline.defs Cert.KernelIdeal.pcfgs) defs₀_eq

/-- The frame of the kernel at the bit level, -/
theorem frame_kernel : Cert.quiescent_Kernel := fun m ρ _ => by
  have h := frame_any (F := Bits) m ρ
  rw [← defs_eq] at h
  exact h

/-- and in exact arithmetic. -/
theorem frame_ideal : Cert.quiescent_KernelIdeal := fun m ρ _ => frame_any (F := Ideal) m ρ

/-- The reference runs and keeps its operands; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Amax

end
-- ==== Proof.Final.lean ====
/- What the launch leaves in a device's arrays, and what the staged operands hold, element by element. -/
module

public import proofs.«01_k».proof.Proof.Launch
public import Idealize.ShloMosaic.Lib.Pipeline.ValueKit.Geometry

@[expose] public section

noncomputable section

namespace Cert.Amax

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-! # The arrays of a device at the end, and the operands as they are staged -/

set_option maxRecDepth 100000 in
/-- The result's array ends holding the whole result, at each element. -/
theorem finalA_2 (c : Dev nD) (i : S4096x64.Idx) : (finalA m ρ c (2 : Fin 3) : S4096x64.Idx → Elt F .f32) i = result m ρ c i :=
  ((dats m ρ 0 c).arrAt_emb_eq_after_last (2 : Fin 3) t0_0 (show win0_2.WholeAt t0_0 by decide +kernel) i).trans rfl

set_option maxRecDepth 100000 in
/-- The first operand as it is staged is the device's whole array. -/
theorem xstg_eq (c : Dev nD) (i : S128x4096.Idx) : xstg m ρ c i = (m ((c : Thread nD τ).loc main_arg0) : S128x4096.Idx → Elt F .bf16) i := by
  unfold xstg
  exact congrArg (m ((c : Thread nD τ).loc main_arg0)) (funext fun a => Fin.ext
    (Window.rect_emb_val_of_index_zero win0_0 (0 : Fin 1) a rfl i))

set_option maxRecDepth 100000 in
/-- The second operand as it is staged is the device's whole array. -/
theorem wstg_eq (c : Dev nD) (i : S4096x64.Idx) : wstg m ρ c i = (m ((c : Thread nD τ).loc main_arg1) : S4096x64.Idx → Elt F .bf16) i := by
  unfold wstg
  exact congrArg (m ((c : Thread nD τ).loc main_arg1)) (funext fun a => Fin.ext
    (Window.rect_emb_val_of_index_zero win0_1 (0 : Fin 1) a rfl i))

end Cert.Amax

end
-- ==== Proof.Payloads.lean ====
/- What the kernel's expressions compute on exact numbers: products of blocks, and greatest magnitudes. A greatest
   magnitude is described by its upper bounds, so that no order of comparison has to be followed. -/
module

public import proofs.«01_k».proof.Proof.Gen.KernelIdeal.Skeleton
public import Idealize.ShloMosaic.Lib.Pointwise

@[expose] public section

noncomputable section

namespace Cert.Amax

open Cert.KernelIdeal Cert.KernelIdeal.Gen
open Idealize.ShloMosaic

/-- The rows are held as they are. -/
theorem pay2_apply (x : Vec Ideal S128x4096 .bf16) (p : Fin 128) (k : Fin 4096) : k0_pay2 x (ix2 p k) = x (ix2 p k) := by
  pointwise [k0_pay2]

/-- The columns are held transposed. -/
theorem pay3_apply (w : Vec Ideal S4096x64 .bf16) (q : Fin 64) (k : Fin 4096) : k0_pay3 w (ix2 q k) = w (ix2 k q) := by
  pointwise [k0_pay3]

/-- A device's own block: each row against each column. -/
theorem pay4_apply (x : Vec Ideal S128x4096 .bf16) (w : Vec Ideal S64x4096 .bf16) (p : Fin 128) (q : Fin 64) :
    k0_pay4 x w (ix2 p q) = ∑ k : Fin 4096, x (ix2 p k) * w (ix2 q k) := by
  pointwise [k0_pay4]

/-- Another device's block: the same products, each with its factors exchanged, in the transposed place. -/
theorem pay6_apply (x : Vec Ideal S128x4096 .bf16) (w : Vec Ideal S1x64x4096 .bf16) (q : Fin 64) (p : Fin 128) :
    k0_pay6 x w (ix2 q p) = ∑ k : Fin 4096, w (ix3 0 q k) * x (ix2 p k) := by
  pointwise [k0_pay6]

/-- A block sent and put in place is read in its transposed place. -/
theorem pay106_apply (y : Vec Ideal S1x64x128 .f32) (p : Fin 128) (q : Fin 64) : k0_pay106 y (ix2 p q) = y (ix3 0 q p) := by
  pointwise [k0_pay106]

theorem pay7_apply (x : Vec Ideal S128x4096 .bf16) (w : Vec Ideal S1x64x4096 .bf16) (q : Fin 64) (p : Fin 128) :
    k0_pay7 x w (ix3 0 q p) = k0_pay6 x w (ix2 q p) := by
  pointwise [k0_pay7]

/-- The pattern that a maximum starts from is below everything. -/
theorem start_bot : Ideal.ofBits .f32 0xFF800000#32 = ⊥ := by
  simp [Ideal.ofBits, Ideal.ieee]

/-- The greatest of all the elements is at most `b` exactly if each element is. -/
theorem greatest_le {s t : Shape} {axes : List (Fin s.rank)} [Subsingleton t.Idx] (src : FVec Ideal s .f32) (h : s.Reduces axes t) (j : t.Idx)
    (b : EReal) : multiReduction .maximumf axes t src 0xFF800000#32 h (.inl rfl) rfl j ≤ b ↔ ∀ i, src i ≤ b := by
  refine (iff_of_eq (congrArg (· ≤ b) (multiReduction_maximumf_eq_fold (F := Ideal) src 0xFF800000#32 h (.inl rfl) rfl j))).trans ?_
  refine (Finset.fold_max_le b).trans ⟨fun h i => h.2 i (Finset.mem_filter.2 ⟨Finset.mem_univ _, Subsingleton.elim _ _⟩), fun h => ⟨?_, fun i _ => h i⟩⟩
  exact (start_bot.trans_le bot_le)

instance : Subsingleton S1.Idx := ⟨fun a b => funext fun | ⟨0, _⟩ => Subsingleton.elim (α := Fin 1) _ _⟩

/-- What is said of the one element of a list is said of the number taken from it. -/
theorem only_le (v : FVec Ideal S1 .f32) (b : EReal) (P : Prop) (h : ∀ j, v j ≤ b ↔ P) :
    (extractAt ![0, 0, 0] (shapeCast S1x1x1 v shapeCasts_S1_S1x1x1) inpos_S1x1x1_p0_0_0 : EReal) ≤ b ↔ P := h _

/-- The magnitude of an exact number. -/
def mag (x : EReal) : EReal := max x (-x)

/-- The greatest magnitude of a device's own block is at most `b` exactly if every magnitude is; -/
theorem pay5_le (x : Vec Ideal S128x4096 .bf16) (w : Vec Ideal S64x4096 .bf16) (b : EReal) :
    (k0_pay5 x w : EReal) ≤ b ↔ ∀ (p : Fin 128) (q : Fin 64), mag (k0_pay4 x w (ix2 p q)) ≤ b := by
  refine only_le _ b _ fun j => (greatest_le _ reduces_S1x128x64_S1 j b).trans ⟨fun h p q => ?_, fun h i => ?_⟩
  · have := h (ix3 0 p q)
    pointwise at this
    exact this
  · rw [eq_ix3 i]
    pointwise
    exact h _ _

/-- and an updated maximum exactly if the maximum so far is, and every magnitude of the block. -/
theorem pay8_le (x : Vec Ideal S128x4096 .bf16) (a : EReal) (w : Vec Ideal S1x64x4096 .bf16) (b : EReal) :
    (k0_pay8 (F := Ideal) x a w : EReal) ≤ b ↔ a ≤ b ∧ ∀ (p : Fin 128) (q : Fin 64), mag (k0_pay6 x w (ix2 q p)) ≤ b := by
  refine max_le_iff.trans (and_congr Iff.rfl (only_le _ b _ fun j => (greatest_le _ reduces_S1x64x128_S1 j b).trans ⟨fun h p q => ?_, fun h i => ?_⟩))
  · have := h (ix3 0 q p)
    pointwise at this
    exact this
  · rw [eq_ix3 i]
    pointwise
    exact h _ _

end Cert.Amax

end
-- ==== Proof.Product.lean ====
/- The blocks that the devices make are blocks of one product of matrices. -/
module

public import proofs.«01_k».proof.Proof.Final
public import proofs.«01_k».proof.Proof.Payloads
public import Idealize.ShloMosaic.Lib.Layout

@[expose] public section

noncomputable section

namespace Cert.Amax

open Cert.KernelIdeal Cert.KernelIdeal.Gen
open Idealize.ShloMosaic Idealize.ShloMosaic.TcCoe

variable (m : (ℓ : Loc nD τ sig) → Buf (Elt Ideal) ℓ) (ρ : Dev nD → PrngReg)
variable (X : (⟨2, ![4096, 4096]⟩ : Shape).Idx → EReal) (W : (⟨2, ![4096, 2048]⟩ : Shape).Idx → EReal)

/-- An element of the whole product. -/
def prod (r : Fin 4096) (j : Fin 2048) : EReal := ∑ k : Fin 4096, X (ix2 r k) * W (ix2 k j)

/-- Row `p` of a device's rows, in the whole; -/
def row (c : Dev nD) (p : Fin 128) : Fin 4096 := ⟨c.val * 128 + p.val, by have : c.val < 32 := c.isLt; omega⟩
/-- column `q` of its columns. -/
def col (c : Dev nD) (q : Fin 64) : Fin 2048 := ⟨c.val * 64 + q.val, by have : c.val < 32 := c.isLt; omega⟩

/-- Every device holds its rows of the first matrix and its columns of the second. -/
structure Dealt : Prop where
  rows : ∀ c : Dev nD, m ((c : Thread nD τ).loc main_arg0) = Layout.block ⟨2, ![128, 4096]⟩ ⟨2, ![4096, 4096]⟩ 0 32 c X
  cols : ∀ c : Dev nD, m ((c : Thread nD τ).loc main_arg1) = Layout.block ⟨2, ![4096, 64]⟩ ⟨2, ![4096, 2048]⟩ 1 32 c W

variable {m X W}

theorem xb_apply (h : Dealt m X W) (c : Dev nD) (p : Fin 128) (k : Fin 4096) : xb m ρ c (ix2 p k) = X (ix2 (row c p) k) := by
  refine (pay2_apply _ p k).trans ((xstg_eq m ρ c _).trans ((congrFun (h.rows c) (ix2 p k)).trans (congrArg X (ext2 ?_ ?_))))
  · rfl
  · rfl

theorem wt_apply (h : Dealt m X W) (c : Dev nD) (q : Fin 64) (k : Fin 4096) : wt m ρ c (ix2 q k) = W (ix2 k (col c q)) := by
  refine (pay3_apply _ q k).trans ((wstg_eq m ρ c _).trans ((congrFun (h.cols c) (ix2 k q)).trans (congrArg W (ext2 ?_ ?_))))
  · rfl
  · rfl

theorem wt1_apply (c : Dev nD) (q : Fin 64) (k : Fin 4096) : wt1 m ρ c (ix3 0 q k) = wt m ρ c (ix2 q k) := by
  have e : shapeCast S64x4096 (wt1 m ρ c) shapeCasts_S1x64x4096_S64x4096 (ix2 q k) = wt m ρ c (ix2 q k) :=
    congrFun (flat_unflat squeezes_S1x64x4096_S64x4096.numel_eq (wt m ρ c)) (ix2 q k)
  pointwise at e
  exact e

/-- A device's own block. -/
theorem own_apply (h : Dealt m X W) (c : Dev nD) (p : Fin 128) (q : Fin 64) :
    k0_pay4 (xb m ρ c) (wt m ρ c) (ix2 p q) = prod X W (row c p) (col c q) := by
  rw [pay4_apply]
  exact Finset.sum_congr rfl fun k _ => by rw [xb_apply ρ h, wt_apply ρ h]

/-- The block that device `c` makes for device `o`. -/
theorem made_apply (h : Dealt m X W) (c o : Dev nD) (p : Fin 128) (q : Fin 64) :
    k0_pay6 (xb m ρ c) (wt1 m ρ o) (ix2 q p) = prod X W (row c p) (col o q) := by
  rw [pay6_apply]
  exact Finset.sum_congr rfl fun k _ => by rw [xb_apply ρ h, wt1_apply, wt_apply ρ h, mul_comm]

/-- Device `c`'s columns of the product, as they are put together from the blocks. -/
theorem yAll_apply (h : Dealt m X W) (c : Dev nD) (i : S4096x64.Idx) : yAll m ρ c i = prod X W (i 0) (col c (i 1)) := by
  obtain ⟨p, q, hp, hr, hq⟩ : ∃ (p : Fin 128) (q : Fin 64), posOf i = ix2 p q ∧ row (blkOf i) p = i 0 ∧ i 1 = q := by
    refine ⟨posOf i 0, i 1, ext2 rfl rfl, Fin.ext ?_, rfl⟩
    show (i 0).val / 128 * 128 + (i 0).val % 128 = (i 0).val
    omega
  unfold yAll
  rw [hp, hq, ← hr]
  split
  · next hb => rw [hb]; exact own_apply ρ h c p q
  · exact (pay106_apply _ p q).trans ((pay7_apply _ _ q p).trans (made_apply ρ h _ c p q))

end Cert.Amax

end
-- ==== Proof.Maximum.lean ====
/- After its updates and the five rounds of exchange every device holds the greatest magnitude of the whole product. -/
module

public import proofs.«01_k».proof.Proof.Product

@[expose] public section

noncomputable section

namespace Cert.Amax

open Cert.KernelIdeal Cert.KernelIdeal.Gen
open Idealize.ShloMosaic Idealize.ShloMosaic.TcCoe

variable {m : (ℓ : Loc nD τ sig) → Buf (Elt Ideal) ℓ} (ρ : Dev nD → PrngReg)
variable {X : (⟨2, ![4096, 4096]⟩ : Shape).Idx → EReal} {W : (⟨2, ![4096, 2048]⟩ : Shape).Idx → EReal}

/-- No magnitude in the block of device `c`'s rows and device `o`'s columns is above `b`. -/
def Below (X : (⟨2, ![4096, 4096]⟩ : Shape).Idx → EReal) (W : (⟨2, ![4096, 2048]⟩ : Shape).Idx → EReal) (b : EReal) (c o : Dev nD) : Prop :=
  ∀ (p : Fin 128) (q : Fin 64), mag (prod X W (row c p) (col o q)) ≤ b

/-- The device's own block, -/
theorem first_le (h : Dealt m X W) (b : EReal) (c : Dev nD) : (acc m ρ 0 c : EReal) ≤ b ↔ Below X W b c c :=
  (pay5_le _ _ b).trans (forall₂_congr fun p q => by rw [own_apply ρ h])

/-- and each block after it, -/
theorem next_le (h : Dealt m X W) (b : EReal) (c : Dev nD) (n : ℕ) (hn : n < 31) :
    (acc m ρ (n + 1) c : EReal) ≤ b ↔ (acc m ρ n c : EReal) ≤ b ∧ Below X W b c (org n c) := by
  rw [acc, if_pos hn]
  exact (pay8_le _ _ _ b).trans (and_congr Iff.rfl (forall₂_congr fun p q => by rw [made_apply ρ h]))

/-- and each partner's maximum enters. -/
theorem round_le (b : EReal) (c : Dev nD) (s : Fin 5) :
    (acc m ρ (31 + s.val + 1) c : EReal) ≤ b ↔ (acc m ρ (31 + s.val) c : EReal) ≤ b ∧ (acc m ρ (31 + s.val) (xorDev s c) : EReal) ≤ b := by
  rw [acc, if_neg (by omega)]
  have e : Fin.ofNat 5 (31 + s.val - 31) = s := by ext; show (31 + s.val - 31) % 5 = s.val; omega
  rw [e]
  exact max_le_iff

/-- The maximum after `n` blocks. -/
theorem blocks_le (h : Dealt m X W) (b : EReal) (c : Dev nD) (n : ℕ) (hn : n ≤ 31) :
    (acc m ρ n c : EReal) ≤ b ↔ Below X W b c c ∧ ∀ k < n, Below X W b c (org k c) := by
  induction n with
  | zero => rw [first_le ρ h]; simp
  | succ n ih =>
    rw [next_le ρ h b c n hn, ih (by omega), and_assoc]
    refine and_congr Iff.rfl ⟨fun ⟨h1, h2⟩ k hk => ?_, fun h => ⟨fun k hk => h k (by omega), h n (by omega)⟩⟩
    rcases Nat.lt_succ_iff_lt_or_eq.1 hk with hk | rfl
    exacts [h1 k hk, h2]

/-- Every other device's columns arrive, once. -/
theorem arrives : ∀ c o : Dev nD, o = c ∨ ∃ k : Fin 31, org k.val c = o := by decide +kernel

/-- A device's maximum before the exchange is over its rows and all columns. -/
theorem rows_le (h : Dealt m X W) (b : EReal) (c : Dev nD) : (acc m ρ 31 c : EReal) ≤ b ↔ ∀ o, Below X W b c o := by
  rw [blocks_le ρ h b c 31 le_rfl]
  refine ⟨fun ⟨h1, h2⟩ o => ?_, fun h => ⟨h c, fun k _ => h _⟩⟩
  rcases arrives c o with rfl | ⟨k, rfl⟩
  exacts [h1, h2 k k.isLt]

/-- After `s` rounds the devices whose numbers differ in the last `s` digits have been heard; one more round doubles them. -/
theorem heard : ∀ (s : Fin 5) (c o : Dev nD), o.val / 2 ^ (s.val + 1) = c.val / 2 ^ (s.val + 1) ↔
    o.val / 2 ^ s.val = c.val / 2 ^ s.val ∨ o.val / 2 ^ s.val = (xorDev s c).val / 2 ^ s.val := by decide +kernel

theorem rounds_le (h : Dealt m X W) (b : EReal) (s : ℕ) (hs : s ≤ 5) (c : Dev nD) :
    (acc m ρ (31 + s) c : EReal) ≤ b ↔ ∀ o : Dev nD, o.val / 2 ^ s = c.val / 2 ^ s → ∀ o', Below X W b o o' := by
  induction s generalizing c with
  | zero =>
    rw [rows_le ρ h]
    refine ⟨fun h o e => ?_, fun h => h c rfl⟩
    have : o = c := Fin.ext (by simpa using e)
    rwa [this]
  | succ s ih =>
    refine (round_le ρ b c ⟨s, hs⟩).trans ?_
    rw [ih (by omega), ih (by omega)]
    have e := heard ⟨s, hs⟩ c
    refine ⟨fun ⟨h1, h2⟩ o ho => ?_, fun h => ⟨fun o ho => h o ((e o).2 (.inl ho)), fun o ho => h o ((e o).2 (.inr ho))⟩⟩
    rcases (e o).1 ho with ho | ho
    exacts [h1 o ho, h2 o ho]

/-- At the end every device's maximum is at most `b` exactly if no magnitude of the whole product is above `b`. -/
theorem all_le (h : Dealt m X W) (b : EReal) (c : Dev nD) :
    (acc m ρ 36 c : EReal) ≤ b ↔ ∀ (r : Fin 4096) (j : Fin 2048), mag (prod X W r j) ≤ b := by
  refine (rounds_le ρ h b 5 le_rfl c).trans ⟨fun h r j => ?_, fun h o _ o' p q => h _ _⟩
  have hr : row ⟨r.val / 128, by show _ < 32; omega⟩ ⟨r.val % 128, by omega⟩ = r :=
    Fin.ext (by show r.val / 128 * 128 + r.val % 128 = r.val; omega)
  have hj : col ⟨j.val / 64, by show _ < 32; omega⟩ ⟨j.val % 64, by omega⟩ = j :=
    Fin.ext (by show j.val / 64 * 64 + j.val % 64 = j.val; omega)
  have := h ⟨r.val / 128, by show _ < 32; omega⟩ (by
    have : c.val < 32 := c.isLt
    show r.val / 128 / 2 ^ 5 = c.val / 2 ^ 5; omega) ⟨j.val / 64, by show _ < 32; omega⟩ ⟨r.val % 128, by omega⟩ ⟨j.val % 64, by omega⟩
  rwa [hr, hj] at this

end Cert.Amax

end
-- ==== Proof.Reference.lean ====
/- What the reference computes in exact arithmetic: the product, its greatest magnitude, and every element of the product
   rounded to the grid of that magnitude. -/
module

public import proofs.«01_k».proof.Proof.Gen.ReferenceIdeal.Run
public import proofs.«01_k».proof.Proof.Product

@[expose] public section

noncomputable section

namespace Cert.Amax

open Cert.ReferenceIdeal Cert.ReferenceIdeal.Gen
open Idealize.ShloMosaic

variable (X : (⟨2, ![4096, 4096]⟩ : Shape).Idx → EReal) (W : (⟨2, ![4096, 2048]⟩ : Shape).Idx → EReal)

/-- A number rounded to a grid of 127 steps on each side of zero. -/
def level (scale y : EReal) : EReal :=
  min (Ideal.ofBits .f32 0x42FE0000#32) (max (Ideal.ofBits .f32 0xC2FE0000#32) (Ideal.liftRound Ideal.roundHalfEven (Ideal.div y scale))) * scale
/-- The step of the grid that reaches `a`. -/
def step (a : EReal) : EReal := Ideal.div a (Ideal.ofBits .f32 0x42FE0000#32)

/-- The reference's product; -/
def refProd : FVec Ideal S4096x2048 .f32 :=
  Host.dotGeneral dot_S4096x4096_S4096x2048_S4096x2048_1_0_0_1_n_n none (extf (F := Ideal) (φ := .bf16) .f32 X bitsLt_bf16_f32)
    (extf (F := Ideal) (φ := .bf16) .f32 W bitsLt_bf16_f32)
/-- its greatest magnitude; -/
def refMax : FVec Ideal S_ .f32 :=
  Host.reduce FloatOps.maximumf (Host.absf (refProd X W)) (constant S_ .f32 0xFF800000#32) reducesTo_S4096x2048_S_d0_1 h_S_
/-- the step of the grid; -/
def refStep : FVec Ideal S_ .f32 := Host.divf (refMax X W) (constant S_ .f32 0x42FE0000#32)
/-- and the product rounded. -/
def refOut : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (refProd X W) (broadcastInDim S4096x2048 ![] bcast_S_S4096x2048 (refStep X W))))))
    (broadcastInDim S4096x2048 ![] bcast_S_S4096x2048 (refStep X W))

theorem refProd_apply (r : Fin 4096) (j : Fin 2048) : refProd X W (ix2 r j) = prod X W r j := by
  unfold prod
  pointwise [refProd]

instance : Subsingleton S_.Idx := ⟨fun a b => funext fun i => i.elim0⟩

/-- The greatest magnitude is at most `b` exactly if no magnitude of the product is above `b`. -/
theorem refMax_le (b : EReal) (i : S_.Idx) : (refMax X W i : EReal) ≤ b ↔ ∀ (r : Fin 4096) (j : Fin 2048), mag (prod X W r j) ≤ b := by
  refine (iff_of_eq (congrArg (· ≤ b) (Host.reduce_eq_fold (FloatOps.maximumf (F := Ideal) (φ := .f32)) (Host.absf (refProd X W))
    (constant S_ .f32 0xFF800000#32) reducesTo_S4096x2048_S_d0_1 h_S_ i))).trans ?_
  refine (Finset.fold_max_le b).trans ⟨fun h r j => ?_, fun h => ⟨start_bot.trans_le bot_le, fun y _ => ?_⟩⟩
  · have := h.2 (ix2 r j) (Finset.mem_filter.2 ⟨Finset.mem_univ _, Subsingleton.elim _ _⟩)
    rw [← refProd_apply]
    exact this
  · obtain ⟨r, j, rfl⟩ : ∃ (r : Fin 4096) (j : Fin 2048), y = ix2 r j := ⟨y 0, y 1, eq_ix2 y⟩
    have := h r j
    rw [← refProd_apply] at this
    exact this

/-- An element of the reference's result. -/
theorem refOut_apply (r : Fin 4096) (j : Fin 2048) :
    refOut X W (ix2 r j) = level (step (refMax X W ix0)) (prod X W r j) := by
  rw [← refProd_apply]
  unfold level step
  pointwise [refOut, refStep]
  rfl

end Cert.Amax

end
-- ==== Proof.Value.lean ====
/- The value: each device's result is its columns of the reference's result. -/
module

public import proofs.«01_k».proof.Defs
public import proofs.«01_k».proof.Proof.Maximum
public import proofs.«01_k».proof.Proof.Reference

@[expose] public section

noncomputable section

namespace Cert.Amax

open Cert.KernelIdeal Cert.KernelIdeal.Gen
open Idealize.ShloMosaic Idealize.ShloMosaic.TcCoe Idealize.SL.Sem

section Element

variable {m : (ℓ : Loc nD τ sig) → Buf (Elt Ideal) ℓ} (ρ : Dev nD → PrngReg)
variable {X : (⟨2, ![4096, 4096]⟩ : Shape).Idx → EReal} {W : (⟨2, ![4096, 2048]⟩ : Shape).Idx → EReal}

/-- The maximum that the devices agree on is the reference's. -/
theorem acc_eq (h : Dealt m X W) (c : Dev nD) : (acc m ρ 36 c : EReal) = refMax X W ix0 :=
  eq_of_forall_ge_iff fun b => (all_le ρ h b c).trans (refMax_le X W b ix0).symm

/-- An element of a device's result, from the maximum and the product. -/
theorem result_apply (c : Dev nD) (i : S4096x64.Idx) : result m ρ c i = level (step (acc m ρ 36 c)) (yAll m ρ c i) := by
  unfold level step result
  generalize acc m ρ 36 c = a
  generalize yAll m ρ c = y
  rw [eq_ix2 i]
  pointwise [k0_pay1, k0_pay138, k0_pay139, k0_pay140]

/-- It is the reference's element in the device's columns. -/
theorem result_eq (h : Dealt m X W) (c : Dev nD) :
    result m ρ c = Layout.block ⟨2, ![4096, 64]⟩ ⟨2, ![4096, 2048]⟩ 1 32 c (refOut X W) := by
  funext i
  rw [result_apply, acc_eq ρ h, yAll_apply ρ h]
  refine (refOut_apply X W (i 0) (col c (i 1))).symm.trans (congrArg (refOut X W) (ext2 ?_ ?_))
  · rfl
  · rfl

end Element

set_option maxRecDepth 100000 in
/-- In exact arithmetic, from operands dealt over the 32 devices: the kernel's results are the parts of the reference's. -/
theorem algebraic : Cert.algebraic_KernelIdeal_ReferenceIdeal := fun m ρ m' ρ' _ hm => by
  have h : Dealt m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (hm c).1, fun c => (hm c).2⟩
  refine ⟨refOut _ _, (θ_run Cert.KernelIdeal.defs _ _).mono (fun r hr c => ⟨?_, (hr.1 c (0 : Fin 3)).trans (finalA_0 m ρ c),
      (hr.1 c (1 : Fin 3)).trans (finalA_1 m ρ c)⟩) (run_main m ρ),
    (θ_run Cert.ReferenceIdeal.defs _ _).mono (fun r hr => hr 0) (Cert.ReferenceIdeal.Value.run (F := Ideal) m' ρ')⟩
  exact (hr.1 c (2 : Fin 3)).trans ((funext fun i => finalA_2 m ρ c i).trans (result_eq ρ h c))

end Cert.Amax

end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Amax.frame_kernel, Cert.Amax.frame_ideal, Cert.Amax.frame_reference, trivial,
    Cert.Amax.algebraic⟩

end Cert.Proof

end
